-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 4, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![1024, 2048]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 2048]⟩ ⟨2, ![512, 2048]⟩ (Layout.meshBlock [2, 4, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x2048 : Shape := ⟨2, ![512, 2048]⟩
abbrev S256x2048 : Shape := ⟨2, ![256, 2048]⟩
abbrev S2x512x256 : Shape := ⟨3, ![2, 512, 256]⟩
abbrev S8x256x256 : Shape := ⟨3, ![8, 256, 256]⟩
abbrev S_ : Shape := ⟨0, ![]⟩
abbrev S2 : Shape := ⟨1, ![2]⟩
abbrev S8 : Shape := ⟨1, ![8]⟩
abbrev S1 : Shape := ⟨1, ![1]⟩
abbrev S1x512x256 : Shape := ⟨3, ![1, 512, 256]⟩
abbrev S512x256 : Shape := ⟨2, ![512, 256]⟩
abbrev S256x256 : Shape := ⟨2, ![256, 256]⟩
abbrev S1x256x256 : Shape := ⟨3, ![1, 256, 256]⟩

abbrev nBuf : Space → Nat
  | .hbm => 3
  | .vmem => 5
  | .smem => 0
  | _ => 0

abbrev bufTy : (tb : Table) → Fin (tcTables nBuf tb) → BufTy
  | .hbm, ⟨0, _⟩ => ⟨S512x512, .f32⟩
  | .hbm, ⟨1, _⟩ => ⟨S512x2048, .f32⟩
  | .hbm, ⟨2, _⟩ => ⟨S256x2048, .f32⟩
  | .local _ .vmem, ⟨0, _⟩ => ⟨S512x512, .f32⟩
  | .local _ .vmem, ⟨1, _⟩ => ⟨S2x512x256, .f32⟩
  | .local _ .vmem, ⟨2, _⟩ => ⟨S8x256x256, .bf16⟩
  | .local _ .vmem, ⟨3, _⟩ => ⟨S8x256x256, .bf16⟩
  | .local _ .vmem, ⟨4, _⟩ => ⟨S256x2048, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 2 → Nat :=
  let c0 : Index := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c256_i32_18 : BitVec 32 := 256#32
  let v27 : BitVec 32 := Scalar.muli v9 c256_i32_18
  let v28 : Index := Scalar.indexCast v27
  ![0, v28.toNat]
def k0_dev2 (d0 : Dev nD) : Nat :=
  let c0_i32_37 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_36 : BitVec 32 := 16#32
  let v44 : BitVec 32 := Scalar.muli v9 c16_i32_36
  let v45 : BitVec 32 := Scalar.addi c0_i32_37 v44
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_38 : BitVec 32 := 4#32
  let v46 : BitVec 32 := Scalar.muli v5 c4_i32_38
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v48 : BitVec 32 := Scalar.muli v8 c1_i32_39
  let v49 : BitVec 32 := Scalar.addi v47 v48
  v49.toNat
def k0_off2 (d0 : Dev nD) : Fin 2 → Nat :=
  let c0_45 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_44 : BitVec 32 := 256#32
  let v58 : BitVec 32 := Scalar.muli v2 c256_i32_44
  let v59 : Index := Scalar.indexCast v58
  ![0, v59.toNat]
def k0_dev3 (d0 : Dev nD) : Nat :=
  let c0_i32_71 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_70 : BitVec 32 := 16#32
  let v84 : BitVec 32 := Scalar.muli v9 c16_i32_70
  let v85 : BitVec 32 := Scalar.addi c0_i32_71 v84
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_72 : BitVec 32 := 4#32
  let v86 : BitVec 32 := Scalar.muli v5 c4_i32_72
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v88 : BitVec 32 := Scalar.muli v8 c1_i32_73
  let v89 : BitVec 32 := Scalar.addi v87 v88
  v89.toNat
def k0_dev4 (d0 : Dev nD) : Nat :=
  let c0_i32_102 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_101 : BitVec 32 := 16#32
  let v120 : BitVec 32 := Scalar.muli v9 c16_i32_101
  let v121 : BitVec 32 := Scalar.addi c0_i32_102 v120
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_103 : BitVec 32 := 4#32
  let v122 : BitVec 32 := Scalar.muli v5 c4_i32_103
  let v123 : BitVec 32 := Scalar.addi v121 v122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v124 : BitVec 32 := Scalar.muli v8 c1_i32_104
  let v125 : BitVec 32 := Scalar.addi v123 v124
  v125.toNat
def k0_dev5 (d0 : Dev nD) : Nat :=
  let c0_i32_132 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_131 : BitVec 32 := 16#32
  let v156 : BitVec 32 := Scalar.muli v9 c16_i32_131
  let v157 : BitVec 32 := Scalar.addi c0_i32_132 v156
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_133 : BitVec 32 := 4#32
  let v158 : BitVec 32 := Scalar.muli v5 c4_i32_133
  let v159 : BitVec 32 := Scalar.addi v157 v158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_134 : BitVec 32 := 1#32
  let v160 : BitVec 32 := Scalar.muli v8 c1_i32_134
  let v161 : BitVec 32 := Scalar.addi v159 v160
  v161.toNat
def k0_dev6 (d0 : Dev nD) : Nat :=
  let c0_i32_163 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_162 : BitVec 32 := 16#32
  let v192 : BitVec 32 := Scalar.muli v9 c16_i32_162
  let v193 : BitVec 32 := Scalar.addi c0_i32_163 v192
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v194 : BitVec 32 := Scalar.muli v5 c4_i32_164
  let v195 : BitVec 32 := Scalar.addi v193 v194
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v196 : BitVec 32 := Scalar.muli v8 c1_i32_165
  let v197 : BitVec 32 := Scalar.addi v195 v196
  v197.toNat
def k0_dev7 (d0 : Dev nD) : Nat :=
  let c0_i32_193 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_192 : BitVec 32 := 16#32
  let v228 : BitVec 32 := Scalar.muli v9 c16_i32_192
  let v229 : BitVec 32 := Scalar.addi c0_i32_193 v228
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_194 : BitVec 32 := 4#32
  let v230 : BitVec 32 := Scalar.muli v5 c4_i32_194
  let v231 : BitVec 32 := Scalar.addi v229 v230
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_195 : BitVec 32 := 1#32
  let v232 : BitVec 32 := Scalar.muli v8 c1_i32_195
  let v233 : BitVec 32 := Scalar.addi v231 v232
  v233.toNat
def k0_dev8 (d0 : Dev nD) : Nat :=
  let c0_i32_223 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_222 : BitVec 32 := 16#32
  let v264 : BitVec 32 := Scalar.muli v9 c16_i32_222
  let v265 : BitVec 32 := Scalar.addi c0_i32_223 v264
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_224 : BitVec 32 := 4#32
  let v266 : BitVec 32 := Scalar.muli v5 c4_i32_224
  let v267 : BitVec 32 := Scalar.addi v265 v266
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_225 : BitVec 32 := 1#32
  let v268 : BitVec 32 := Scalar.muli v8 c1_i32_225
  let v269 : BitVec 32 := Scalar.addi v267 v268
  v269.toNat
def k0_dev9 (d0 : Dev nD) : Nat :=
  let c0_i32_248 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_247 : BitVec 32 := 16#32
  let v295 : BitVec 32 := Scalar.muli v9 c16_i32_247
  let v296 : BitVec 32 := Scalar.addi c0_i32_248 v295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_249 : BitVec 32 := 4#32
  let v297 : BitVec 32 := Scalar.muli v5 c4_i32_249
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_250 : BitVec 32 := 1#32
  let v299 : BitVec 32 := Scalar.muli v8 c1_i32_250
  let v300 : BitVec 32 := Scalar.addi v298 v299
  v300.toNat
-- ==== ReferenceIdeal.lean ====
abbrev S1024x512 : Shape := ⟨2, ![1024, 512]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x2048, .f32⟩
  | .hbm, ⟨2, _⟩ => ⟨S512x1024, .f32⟩
  | .hbm, ⟨3, _⟩ => ⟨S512x2048, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Protocol.lean ====
/-
# The exchange between a device and its partner: buffers, semaphore cells, schedule and levels

Device `c` of the 2 × 4 × 4 mesh exchanges with `peer c`, the device across the first axis. It computes, one block of
256 columns at a time, the part of the product its partner keeps, sends each of the eight blocks into the partner's
receive buffer, and adds the eight blocks it receives to its own part. This module names the slots of the buffers and the
semaphore cells, states what each cell's units hand over, and what each device owes at the start.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.ValueIdxCore
public import Idealize.ShloMosaic.Lib.ViewIndex
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Idealize.ShloMosaic.Pipeline (Dat Cfg Window BodyObligation cellOf)

variable {F : FTy → Type} [FloatOps F]

/-- The ghost algebra: one copy for the launch's own cells, one for the exchange's, and the counters of the
    core's own copies. -/
abbrev UU : Type := UR sig nD τ × (UR sig nD τ × Counters)

local notation "𝕄" => MT nD τ sig Unit (Elt F) ℕ UU ℕ

/-- The launch's copy of the ghost algebra: the left factor. -/
abbrev EP : Emb (UR sig nD τ) (MT nD τ sig Unit (Elt F) ℕ UU ℕ) := embL
/-- The exchange's copy: the left half of the right factor. -/
def ER : Emb (UR sig nD τ) (MT nD τ sig Unit (Elt F) ℕ UU ℕ) := (Emb.inl : Emb (UR sig nD τ) (UR sig nD τ × Counters)).trans embR
/-- The exchange's copy lies in the user's part of the ghost state. -/
instance ER_landsIn : (ER : Emb (UR sig nD τ) 𝕄).LandsIn (upEmb : UEmb _ 𝕄) := by unfold ER embR; infer_instance

variable (m : (ℓ : Loc nD τ sig) → Buf (Elt F) ℓ)

/-! ## The partner -/

/-- The device across the mesh's first axis (logical id `16 x + 4 y + z`). -/
def peer (c : Dev nD) : Dev nD := ⟨(c.val + 16) % 32, Nat.mod_lt _ (by decide)⟩

/-- The partner's partner is the device. -/
theorem peer_peer (c : Dev nD) : peer (peer c) = c := by revert c; decide

/-- The partner as a permutation of the devices. -/
def across : Dev nD ≃ Dev nD := ⟨peer, peer, peer_peer, peer_peer⟩

/-- The closed form in which the kernel's nine device ids are printed names the partner. -/
theorem peer_val (c : Dev nD) : (4 * ((c.val / 4) % 4) + (c.val % 4) + 16) - 16 * (c.val / 16) = (peer c).val := by
  revert c; decide

/-- A device whose number is that closed form is the partner. -/
theorem dev_eq {c : Dev nD} {n : ℕ} (h : n < nD) (e : n = (4 * ((c.val / 4) % 4) + (c.val % 4) + 16) - 16 * (c.val / 16)) :
    (⟨n, h⟩ : Dev nD) = peer c := Fin.ext (e.trans (peer_val c))

/-! ## Slots and column blocks -/

/-- A slot of an exchange buffer lies inside it, -/
theorem inb_slot (j : Fin 8) : ∀ a, (![j.val, 0, 0] : Fin 3 → ℕ) a + S1x256x256.size a ≤ S8x256x256.size a := by
  revert j; decide
/-- a column block of a `256 × 2048` array inside the array, -/
theorem inb_cols (j : Fin 8) : ∀ a, (![0, 256 * j.val] : Fin 2 → ℕ) a + S256x256.size a ≤ S256x2048.size a := by
  revert j; decide
/-- a column block of a device's rows of `dy` inside these, -/
theorem inb_dyCols (j : Fin 8) : ∀ a, (![0, 256 * j.val] : Fin 2 → ℕ) a + S512x256.size a ≤ S512x2048.size a := by
  revert j; decide
/-- a staging slot inside the staging buffer, -/
theorem inb_dySlot (k : Fin 2) : ∀ a, (![k.val, 0, 0] : Fin 3 → ℕ) a + S1x512x256.size a ≤ S2x512x256.size a := by
  revert k; decide
/-- and a semaphore of an array of eight, -/
theorem inb_sem (j : Fin 8) : ∀ a, (![j.val] : Fin 1 → ℕ) a + S1.size a ≤ S8.size a := by revert j; decide
/-- or of two, inside the array. -/
theorem inb_dySem (k : Fin 2) : ∀ a, (![k.val] : Fin 1 → ℕ) a + S1.size a ≤ S2.size a := by revert k; decide

/-- Slot `j` of an eight-slot exchange buffer. -/
abbrev slotR (j : Fin 8) : Rect S8x256x256 := Rect.unit (s := S8x256x256) ![j.val, 0, 0] S1x256x256.size (inb_slot j)
/-- Columns `256 j … 256 j + 255` of a `256 × 2048` array. -/
abbrev colsR (j : Fin 8) : Rect S256x2048 := Rect.unit (s := S256x2048) ![0, 256 * j.val] S256x256.size (inb_cols j)
/-- Columns `256 j … 256 j + 255` of a device's rows of `dy`. -/
abbrev dyColsR (j : Fin 8) : Rect S512x2048 := Rect.unit (s := S512x2048) ![0, 256 * j.val] S512x256.size (inb_dyCols j)
/-- Slot `k` of the two-slot staging buffer of `dy`. -/
abbrev dySlotR (k : Fin 2) : Rect S2x512x256 := Rect.unit (s := S2x512x256) ![k.val, 0, 0] S1x512x256.size (inb_dySlot k)

/-- Send slot `j`. -/
abbrev sendM (j : Fin 8) : Memref sig .tc .vmem S256x256 .bf16 :=
  ((Memref.whole cc0_scratch2 : Memref sig .tc .vmem S8x256x256 .bf16).slice (slotR j) (fun _ => rfl)).squeeze S256x256 squeezes_S1x256x256_S256x256
/-- Receive slot `j`. -/
abbrev recvM (j : Fin 8) : Memref sig .tc .vmem S256x256 .bf16 :=
  ((Memref.whole cc0_scratch3 : Memref sig .tc .vmem S8x256x256 .bf16).slice (slotR j) (fun _ => rfl)).squeeze S256x256 squeezes_S1x256x256_S256x256
/-- Staging slot `k`. -/
abbrev dyM (k : Fin 2) : Memref sig .tc .vmem S512x256 .f32 :=
  ((Memref.whole cc0_scratch1 : Memref sig .tc .vmem S2x512x256 .f32).slice (dySlotR k) (fun _ => rfl)).squeeze S512x256 squeezes_S1x512x256_S512x256
/-- Column block `j` of the accumulator. -/
abbrev accM (j : Fin 8) : Memref sig .tc .vmem S256x256 .f32 :=
  (Memref.whole cc0_scratch4 : Memref sig .tc .vmem S256x2048 .f32).slice (colsR j) (fun _ => rfl)
/-- Column block `j` of the result. -/
abbrev outM (j : Fin 8) : Memref sig .tc .hbm S256x256 .f32 :=
  (Memref.whole main_v1 : Memref sig .tc .hbm S256x2048 .f32).slice (colsR j) (fun _ => rfl)

/-! ## Semaphore cells -/

/-- The barrier semaphore. -/
abbrev barS : Sem sig := (SemArray.scalar (sig.barrier 0 rfl) : Sems sig S_).sem
/-- The semaphore on which block `j`'s departure is credited. -/
abbrev sendS (j : Fin 8) : DmaSem sig :=
  ((cc0_scratch8.slice (Rect.unit (s := S8) ![j.val] S1.size (inb_sem j)) : DmaSems sig S1).squeeze S_ squeezes_S1_S_).sem
/-- The semaphore on which block `j`'s arrival is credited. -/
abbrev recvS (j : Fin 8) : DmaSem sig :=
  ((cc0_scratch9.slice (Rect.unit (s := S8) ![j.val] S1.size (inb_sem j)) : DmaSems sig S1).squeeze S_ squeezes_S1_S_).sem

/-- The semaphore of the copies into staging slot `k`. -/
abbrev dyS (k : Fin 2) : DmaSem sig :=
  ((cc0_scratch6.slice (Rect.unit (s := S2) ![k.val] S1.size (inb_dySem k)) : DmaSems sig S1).squeeze S_ squeezes_S1_S_).sem
/-- The semaphore of the copy of column block `j` of the result. -/
abbrev outS (j : Fin 8) : DmaSem sig :=
  ((cc0_scratch7.slice (Rect.unit (s := S8) ![j.val] S1.size (inb_sem j)) : DmaSems sig S1).squeeze S_ squeezes_S1_S_).sem

/-- The departures are the semaphores 11 to 18, -/
theorem sendS_val (j : Fin 8) : (sendS j).val = 11 + j.val := by revert j; decide
/-- the arrivals 19 to 26. -/
theorem recvS_val (j : Fin 8) : (recvS j).val = 19 + j.val := by revert j; decide

/-- Device `c`'s barrier cell. -/
abbrev barCell (c : Dev nD) : GSem nD τ sig := ((c : Thread nD τ), .reg barS)
/-- Device `c`'s departure cell of block `j`. -/
abbrev sendCell (c : Dev nD) (j : Fin 8) : GSem nD τ sig := ((c : Thread nD τ), .dma (sendS j))
/-- Device `c`'s arrival cell of block `j`. -/
abbrev recvCell (c : Dev nD) (j : Fin 8) : GSem nD τ sig := ((c : Thread nD τ), .dma (recvS j))

/-- A device's cells of the exchange: its barrier, its eight departures, its eight arrivals. -/
abbrev CI : Type := Unit ⊕ (Fin 8 ⊕ Fin 8)
/-- The semaphore of a cell, -/
abbrev csem : CI → SemLoc sig
  | .inl _ => .reg barS
  | .inr (.inl j) => .dma (sendS j)
  | .inr (.inr j) => .dma (recvS j)
/-- and the cell on a device. -/
abbrev kcell (x : Dev nD × CI) : GSem nD τ sig := ((x.1 : Thread nD τ), csem x.2)

/-- What one block's transfer adds to a semaphore. -/
abbrev N : ℕ := (recvM 0).view.dmaCredit
/-- A transfer adds something. -/
theorem N_pos : 0 < N := View.dmaCredit_pos _ (by decide)

/-! ## Contents -/

/-- Device `c`'s rows of `x`, restricted to the columns its partner keeps. -/
def xThem (c : Dev nD) : Vec F S512x256 .f32 :=
  (Memref.whole main_arg0 : Memref sig .tc .hbm S512x512 .f32).view.readAt (Elt F)
    (Rect.unit (s := S512x512) (k0_off1 c) S512x256.size (k0_off1_inb c)).toLoadRect (m ((c : Thread nD τ).loc main_arg0))
/-- Device `c`'s rows of `x`, restricted to the columns it keeps. -/
def xMine (c : Dev nD) : Vec F S512x256 .f32 :=
  (Memref.whole main_arg0 : Memref sig .tc .hbm S512x512 .f32).view.readAt (Elt F)
    (Rect.unit (s := S512x512) (k0_off2 c) S512x256.size (k0_off2_inb c)).toLoadRect (m ((c : Thread nD τ).loc main_arg0))

/-- Block `j` of device `c`'s rows of `dy`, as it is read from the staging buffer. -/
def dyChunk (c : Dev nD) (j : Fin 8) : Vec F S1x512x256 .f32 := fun i =>
  m ((c : Thread nD τ).loc main_arg1)
    (ix2 (n0 := 512) (n1 := 2048) (i 1) ⟨256 * j.val + (i 2).val, by have h : (i 2).val < 256 := (i 2).isLt; have := j.isLt; omega⟩)

/-- Block `j` of what device `c` computes for its partner. -/
def sent (c : Dev nD) (j : Fin 8) : Vec F S1x256x256 .bf16 := k0_pay3 (xThem m c) (dyChunk m c j)

/-- Device `c`'s receive buffer once every block has arrived. -/
def landed (c : Dev nD) : (cc0_scratch3 : Ref sig .tc).ty.Contents (Elt F) :=
  fun i => sent m (peer c) (i 0) (ix3 (n0 := 1) (n1 := 256) (n2 := 256) 0 (i 1) (i 2))

/-- Send slot `j` of device `c`, owned at contents `f`. -/
abbrev sendPts (c : Dev nD) (j : Fin 8) (f : Buf (Elt F) ((sendM j).view.loc (c : Thread nD τ))) : sProp 𝕄 :=
  (sendM j).view.loc (c : Thread nD τ) ↦[(sendM j).view.set]{fullShare} f
/-- Receive slot `j` of device `c`, owned at contents `f`. -/
abbrev recvPts (c : Dev nD) (j : Fin 8) (f : Buf (Elt F) ((recvM j).view.loc (c : Thread nD τ))) : sProp 𝕄 :=
  (recvM j).view.loc (c : Thread nD τ) ↦[(recvM j).view.set]{fullShare} f
/-- A device's own copy of its rows of `x`. -/
abbrev xM : Memref sig .tc .vmem S512x512 .f32 := Memref.whole cc0_scratch0
/-- A device's rows of `x`, as its argument array. -/
abbrev xArgM : Memref sig .tc .hbm S512x512 .f32 := Memref.whole main_arg0
/-- A device's rows of `dy`, as its argument array. -/
abbrev dyArgM : Memref sig .tc .hbm S512x2048 .f32 := Memref.whole main_arg1
/-- Device `c`'s copy of its rows of `x`, owned at contents `f`. -/
abbrev xPts (c : Dev nD) (f : Buf (Elt F) (xM.view.loc (c : Thread nD τ))) : sProp 𝕄 := xM.view.loc (c : Thread nD τ) ↦{fullShare} f
/-- Device `c`'s argument `x`, owned at contents `f`. -/
abbrev xArgPts (c : Dev nD) (f : Buf (Elt F) (xArgM.view.loc (c : Thread nD τ))) : sProp 𝕄 := xArgM.view.loc (c : Thread nD τ) ↦{fullShare} f
/-- Device `c`'s argument `dy`, owned at contents `f`. -/
abbrev dyArgPts (c : Dev nD) (f : Buf (Elt F) (dyArgM.view.loc (c : Thread nD τ))) : sProp 𝕄 := dyArgM.view.loc (c : Thread nD τ) ↦{fullShare} f
/-- Staging slot `k` of device `c`, owned at contents `f`. -/
abbrev dyPts (c : Dev nD) (k : Fin 2) (f : Buf (Elt F) ((dyM k).view.loc (c : Thread nD τ))) : sProp 𝕄 :=
  (dyM k).view.loc (c : Thread nD τ) ↦[(dyM k).view.set]{fullShare} f
/-- Column block `j` of device `c`'s accumulator, owned at contents `f`. -/
abbrev accPts (c : Dev nD) (j : Fin 8) (f : Buf (Elt F) ((accM j).view.loc (c : Thread nD τ))) : sProp 𝕄 :=
  (accM j).view.loc (c : Thread nD τ) ↦[(accM j).view.set]{fullShare} f
/-- Column block `j` of device `c`'s result, owned at contents `f`. -/
abbrev outPts (c : Dev nD) (j : Fin 8) (f : Buf (Elt F) ((outM j).view.loc (c : Thread nD τ))) : sProp 𝕄 :=
  (outM j).view.loc (c : Thread nD τ) ↦[(outM j).view.set]{fullShare} f

/-! ## The schedule -/

/-- The partner's barrier signal hands over its eight receive slots. -/
def barPay (c : Dev nD) : sProp 𝕄 := bigSep Finset.univ fun j : Fin 8 => iprop(∃ f, recvPts (peer c) j f)
/-- A departure hands the send slot back. -/
def sendPay (c : Dev nD) (j : Fin 8) : sProp 𝕄 := iprop(∃ f, sendPts c j f)
/-- An arrival hands over the receive slot holding the partner's block. -/
def recvPay (c : Dev nD) (j : Fin 8) : sProp 𝕄 := recvPts c j (landed m c)

/-- The cells of the exchange. -/
abbrev IsEx (g : GSem nD τ sig) : Prop := g.1.2 = .tc ∧ ∃ k : CI, g.2 = csem k

/-- What a cell's units hand over, by the semaphore's number. -/
def exPay (c : Dev nD) : SemLoc sig → sProp 𝕄
  | .reg _ => barPay c
  | .dma q =>
    if h : 19 ≤ q.val then recvPay m c ⟨q.val - 19, by have : q.val < 27 := q.isLt; omega⟩
    else if h' : 11 ≤ q.val then sendPay c ⟨q.val - 11, by omega⟩
    else iprop(emp)

/-- One round, one duty per cell of the exchange. -/
def exRd : Rounds.Schedule (GSem nD τ sig) Unit 𝕄 where
  duties g r := if r = 0 ∧ IsEx g then {()} else ∅
  unitless _ := False
  amount g _ _ := if g.2 = .reg barS then 1 else N
  payload g _ _ := exPay m g.1.1 g.2
  amount_pos g _ _ _ := by
    by_cases h : g.2 = .reg barS
    · rw [if_pos h]; exact Nat.one_pos
    · rw [if_neg h]; exact N_pos

/-- What a cell hands over can be stored in its invariant. -/
instance exRd_payload_storable (g : GSem nD τ sig) (r : ℕ) (d : Unit) : BI.Storable (upEmb : UEmb _ 𝕄) ((exRd (F := F) m).payload g r d) := by
  show BI.Storable upEmb (exPay m g.1.1 g.2)
  unfold exPay barPay sendPay recvPay
  (repeat' split) <;> infer_instance

section Sched
variable (c : Dev nD) (j : Fin 8)

/-- Each cell of the exchange has its one duty in round 0, and none later. -/
theorem duties_cell (k : CI) : (exRd (F := F) m).duties (kcell (c, k)) 0 = {()} := if_pos ⟨rfl, rfl, k, rfl⟩
/-- So the barrier, -/
theorem duties_bar : (exRd (F := F) m).duties (barCell c) 0 = {()} := duties_cell m c (.inl ())
/-- a departure, -/
theorem duties_send : (exRd (F := F) m).duties (sendCell c j) 0 = {()} := duties_cell m c (.inr (.inl j))
/-- an arrival; -/
theorem duties_recv : (exRd (F := F) m).duties (recvCell c j) 0 = {()} := duties_cell m c (.inr (.inr j))
/-- and no duty is in a later round. -/
theorem duties_later (g : GSem nD τ sig) : ∀ r, 1 ≤ r → (exRd (F := F) m).duties g r = ∅ :=
  fun r hr => if_neg fun h => by omega

/-- The barrier's duty is one unit, -/
theorem amount_bar (u : Unit) : (exRd (F := F) m).amount (barCell c) 0 u = 1 := by dsimp only [exRd]; exact if_pos rfl
/-- a departure's a block's credit, -/
theorem amount_send (u : Unit) : (exRd (F := F) m).amount (sendCell c j) 0 u = N := by dsimp only [exRd]; exact if_neg fun h => by cases h
/-- an arrival's too. -/
theorem amount_recv (u : Unit) : (exRd (F := F) m).amount (recvCell c j) 0 u = N := by dsimp only [exRd]; exact if_neg fun h => by cases h

/-- A barrier's round is one unit, -/
theorem expect_bar : (exRd (F := F) m).expect (barCell c) 0 = 1 := by
  unfold Schedule.expect Schedule.amountOf; rw [duties_bar, Finset.sum_singleton, amount_bar]
/-- a departure's a block's credit, -/
theorem expect_send : (exRd (F := F) m).expect (sendCell c j) 0 = N := by
  unfold Schedule.expect Schedule.amountOf; rw [duties_send, Finset.sum_singleton, amount_send]
/-- an arrival's too. -/
theorem expect_recv : (exRd (F := F) m).expect (recvCell c j) 0 = N := by
  unfold Schedule.expect Schedule.amountOf; rw [duties_recv, Finset.sum_singleton, amount_recv]

/-- The barrier hands over the partner's receive slots, -/
theorem payload_bar (u : Unit) : (exRd (F := F) m).payload (barCell c) 0 u = barPay c := rfl
/-- a departure the send slot, -/
theorem payload_send (u : Unit) : (exRd (F := F) m).payload (sendCell c j) 0 u = sendPay c j := by
  have hv := sendS_val j
  have hj := j.isLt
  show exPay m c (.dma (sendS j)) = _
  unfold exPay; dsimp only
  rw [dif_neg (by omega), dif_pos (by omega)]
  exact congrArg (sendPay c) (Fin.ext (by dsimp only; omega))
/-- an arrival the receive slot with the partner's block. -/
theorem payload_recv (u : Unit) : (exRd (F := F) m).payload (recvCell c j) 0 u = recvPay m c j := by
  have hv := recvS_val j
  show exPay m c (.dma (recvS j)) = _
  unfold exPay; dsimp only
  rw [dif_pos (by omega)]
  exact congrArg (recvPay m c) (Fin.ext (by dsimp only; omega))

/-- A whole round hands that over: the barrier's, -/
theorem rest_bar : bigSep ((exRd (F := F) m).duties (barCell c) 0 \ ∅) (fun u => (exRd (F := F) m).payload (barCell c) 0 u) = barPay c := by
  rw [Finset.sdiff_empty, duties_bar, bigSep_singleton, payload_bar]
/-- a departure's, -/
theorem rest_send : bigSep ((exRd (F := F) m).duties (sendCell c j) 0 \ ∅) (fun u => (exRd (F := F) m).payload (sendCell c j) 0 u) = sendPay c j := by
  rw [Finset.sdiff_empty, duties_send, bigSep_singleton, payload_send]
/-- an arrival's. -/
theorem rest_recv : bigSep ((exRd (F := F) m).duties (recvCell c j) 0 \ ∅) (fun u => (exRd (F := F) m).payload (recvCell c j) 0 u) = recvPay m c j := by
  rw [Finset.sdiff_empty, duties_recv, bigSep_singleton, payload_recv]

end Sched

/-! ## What each core owes, and the levels that order the waits -/

/-- The credit of the partner's arrivals for the blocks `j` in `B`, not yet sent. -/
def owedTo (c : Dev nD) (B : Finset (Fin 8)) : CellTallies nD τ sig Unit := ∑ j ∈ B, tallyAt (recvCell (peer c) j) () N

/-- At the start a device owes its partner's eight arrivals and its barrier unit. -/
def O₀ (c : Dev nD) : CellTallies nD τ sig Unit := owedTo c Finset.univ + tallyAt (barCell (peer c)) () 1

/-- The cells that have a level: those of the TensorCores. -/
def L (g : GSem nD τ sig) : Finset Unit := if g.1.2 = .tc then {()} else ∅
/-- The barrier ranks above the local copies, and the arrivals above the barrier. -/
def lv (g : GSem nD τ sig) (_ : Unit) : ℕ := match g.2 with
  | .reg _ => 1
  | .dma q => if 19 ≤ q.val then 2 else 0
/-- No other cell has a level, -/
theorem L_of_ne (g : GSem nD τ sig) (h : g.1.2 ≠ .tc) : L g = ∅ := if_neg h
/-- and every one of these has. -/
theorem L_tc (c : Dev nD) (sm : SemLoc sig) : L ((c : Thread nD τ), sm) = {()} := if_pos rfl
/-- The arrivals' level is 2. -/
theorem lv_recv (c : Dev nD) (j : Fin 8) (u : Unit) : lv (recvCell c j) u = 2 := if_pos (by have := recvS_val j; omega)

/-- A block owed is owed to one of the partner's arrival cells. -/
theorem owedTo_pos {c : Dev nD} {B : Finset (Fin 8)} {g : GSem nD τ sig} {u : Unit} (h : 0 < owedTo c B g u) : ∃ j, g = recvCell (peer c) j := by
  unfold owedTo at h
  rw [Finset.sum_apply, Finsupp.finset_sum_apply] at h
  obtain ⟨j, -, hj⟩ := Finset.exists_ne_zero_of_sum_ne_zero (Nat.pos_iff_ne_zero.mp h)
  refine ⟨j, ?_⟩
  rw [tallyAt_apply] at hj
  by_contra hn
  exact hj (if_neg fun h' => hn h'.1)

/-- What is owed at the start is owed to the partner's arrivals or to its barrier. -/
theorem O₀_pos {c : Dev nD} {g : GSem nD τ sig} {u : Unit} (h : 0 < O₀ c g u) : (∃ j, g = recvCell (peer c) j) ∨ g = barCell (peer c) := by
  unfold O₀ at h
  rw [Pi.add_apply, Finsupp.add_apply, tallyAt_apply] at h
  by_contra hn; rw [not_or] at hn
  rw [if_neg (fun h' => hn.2 h'.1), Nat.add_zero] at h
  exact hn.1 (owedTo_pos h)

/-- Any wait below the arrivals is allowed while blocks are owed. -/
theorem mayWait_owedTo (c : Dev nD) (sm : SemLoc sig) (hsm : ∀ u, lv ((c : Thread nD τ), sm) u ≤ 1) (B : Finset (Fin 8)) :
    (levAts L lv : sProp 𝕄) ⊢ MayWait (c : Thread nD τ) sm () (owedTo c B) :=
  MayOwe.of_cut (L := L) (lev := lv) 1 (fun p hp => by rw [Finset.mem_singleton.mp hp, L_tc]; exact Finset.mem_singleton_self _)
    (fun g u hg => by obtain ⟨j, rfl⟩ := owedTo_pos hg; exact Finset.mem_singleton_self _)
    (fun p hp => by rw [Finset.mem_singleton.mp hp]; exact hsm _)
    (fun g u hg => by obtain ⟨j, rfl⟩ := owedTo_pos hg; rw [lv_recv]; decide)

/-- A wait on a local copy is allowed whatever is owed. -/
theorem mayWait_local (c : Dev nD) (q : DmaSem sig) (hq : q.val < 19) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by rcases O₀_pos hg with ⟨j, rfl⟩ | rfl <;> exact Finset.mem_singleton_self _)
      (fun p hp => by rw [Finset.mem_singleton.mp hp]; exact (if_neg (by omega)).le)
      (fun g u hg => by
        rcases O₀_pos hg with ⟨j, rfl⟩ | rfl
        · rw [lv_recv]; decide
        · exact Nat.one_pos)
  · rw [MayWait_zero]; iintro -; iempintro

end Cert.KernelIdealProof
-- ==== Proof.KernelIdeal.Values.lean ====
/-
# What the body's reads and writes hold

Each fact is stated once, for a slot or a column block named by a variable: what a slot holds after it was written, what
a read of it gives, and what a column block of the result holds in the end.
-/
module

public import proofs.«01_k».proof.Proof.KernelIdeal.Protocol
public import Idealize.ShloMosaic.Lib.ValueLayout
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.ValueIdx (ix2 ix3 eq_ix2 eq_ix3)

variable {F : FTy → Type} [FloatOps F]

local notation "𝕄" => MT nD τ sig Unit (Elt F) ℕ UU ℕ

variable (m : (ℓ : Loc nD τ sig) → Buf (Elt F) ℓ)

/-! ## Where the indices of a slot and of a column block lie -/

/-- Entry `(a, b)` of a `256 × 256` block, seen as a slot of an exchange buffer, is entry `(j, a, b)` of the buffer. -/
theorem slot_emb (j : Fin 8) (h : S256x256.numel = (slotR j).shape.numel) (x : S256x256.Idx) :
    (slotR j).emb (Shape.reshapeEquiv h x) = ix3 (n0 := 8) (n1 := 256) (n2 := 256) j (x 0) (x 1) := by
  have hx : x = ix2 (n0 := 256) (n1 := 256) (x 0) (x 1) := eq_ix2 x
  have e := ValueIdx.reshapeEquiv_ix2_1ab (a := 256) (b := 256) h (x 0) (x 1)
  rw [← hx] at e
  rw [show Shape.reshapeEquiv h x = _ from e]
  refine Shape.idx3_ext ?_ ?_ ?_
  · show j.val + 1 * 0 = j.val; omega
  · show 0 + 1 * (x 0).val = (x 0).val; omega
  · show 0 + 1 * (x 1).val = (x 1).val; omega

/-- Entry `(0, a, b)` of a slot is entry `(j, a, b)` of the buffer. -/
theorem slot_idx (j : Fin 8) (x : S1x256x256.Idx) :
    (slotR j).emb x = ix3 (n0 := 8) (n1 := 256) (n2 := 256) j (x 1) (x 2) := by
  have h0 : (x 0).val < 1 := (x 0).isLt
  refine Shape.idx3_ext ?_ ?_ ?_
  · show j.val + 1 * (x 0).val = j.val; omega
  · show 0 + 1 * (x 1).val = (x 1).val; omega
  · show 0 + 1 * (x 2).val = (x 2).val; omega

/-- Entry `(a, b)` of a `512 × 256` block, seen as a slot of the staging buffer, is entry `(k, a, b)` of the buffer. -/
theorem dySlot_emb (k : Fin 2) (h : S512x256.numel = (dySlotR k).shape.numel) (x : S512x256.Idx) :
    (dySlotR k).emb (Shape.reshapeEquiv h x) = ix3 (n0 := 2) (n1 := 512) (n2 := 256) k (x 0) (x 1) := by
  have hx : x = ix2 (n0 := 512) (n1 := 256) (x 0) (x 1) := eq_ix2 x
  have e := ValueIdx.reshapeEquiv_ix2_1ab (a := 512) (b := 256) h (x 0) (x 1)
  rw [← hx] at e
  rw [show Shape.reshapeEquiv h x = _ from e]
  refine Shape.idx3_ext ?_ ?_ ?_
  · show k.val + 1 * 0 = k.val; omega
  · show 0 + 1 * (x 0).val = (x 0).val; omega
  · show 0 + 1 * (x 1).val = (x 1).val; omega

/-- Entry `(0, a, b)` of a staging slot is entry `(k, a, b)` of the staging buffer. -/
theorem dySlot_idx (k : Fin 2) (x : S1x512x256.Idx) :
    (dySlotR k).emb x = ix3 (n0 := 2) (n1 := 512) (n2 := 256) k (x 1) (x 2) := by
  have h0 : (x 0).val < 1 := (x 0).isLt
  refine Shape.idx3_ext ?_ ?_ ?_
  · show k.val + 1 * (x 0).val = k.val; omega
  · show 0 + 1 * (x 1).val = (x 1).val; omega
  · show 0 + 1 * (x 2).val = (x 2).val; omega

/-- Entry `(a, b)` of column block `j` is entry `(a, 256 j + b)`. -/
theorem cols_emb (j : Fin 8) (x : S256x256.Idx) :
    (colsR j).emb x = ix2 (n0 := 256) (n1 := 2048) (x 0) ⟨256 * j.val + (x 1).val, by have h : (x 1).val < 256 := (x 1).isLt; omega⟩ := by
  refine Shape.idx_ext₂ ?_ ?_
  · show 0 + 1 * (x 0).val = (x 0).val; omega
  · show 256 * j.val + 1 * (x 1).val = 256 * j.val + (x 1).val; omega

/-- Entry `(a, b)` of column block `j` of a device's rows of `dy` is entry `(a, 256 j + b)`. -/
theorem dyCols_emb (j : Fin 8) (x : S512x256.Idx) :
    (dyColsR j).emb x = ix2 (n0 := 512) (n1 := 2048) (x 0) ⟨256 * j.val + (x 1).val, by have h : (x 1).val < 256 := (x 1).isLt; omega⟩ := by
  refine Shape.idx_ext₂ ?_ ?_
  · show 0 + 1 * (x 0).val = (x 0).val; omega
  · show 256 * j.val + 1 * (x 1).val = 256 * j.val + (x 1).val; omega

/-- A view whose last write filled it reads as that write's payload. -/
theorem read_filled {κ : Kind} {sp : Space} {s : Shape} {e : EltTy} (v : View sig κ sp s e) (f : v.ty.Contents (Elt F)) (w : s.Idx → Elt F e)
    (l : List (View.Piece (Elt F) s e)) (y : s.Idx) : v.read (Elt F) (v.writes (Elt F) f (⟨Rect.whole s, w⟩ :: l)) y = w y := by
  have h := View.read_writes_cons_emb v f (Rect.whole s) w l y
  rwa [Rect.emb_whole_apply] at h

/-- A load of a rectangle of a view, that rectangle filled last through another shape, reads the payload. -/
theorem read_staged {κ : Kind} {sp : Space} {s s' : Shape} {e : EltTy} (v : View sig κ sp s e) (r : Rect s) (h : s'.numel = r.shape.numel)
    (f : v.ty.Contents (Elt F)) (w : s'.Idx → Elt F e) (l : List (View.Piece (Elt F) s' e)) (x : r.shape.Idx) :
    v.readAt (Elt F) r.toLoadRect (((v.slice r).reshape s' h).writes (Elt F) f (⟨Rect.whole s', w⟩ :: l)) x = w (Shape.reshapeEquiv h.symm x) := by
  have e := read_filled ((v.slice r).reshape s' h) f w l (Shape.reshapeEquiv h.symm x)
  rw [← e]
  have e' : Shape.reshapeEquiv h (Shape.reshapeEquiv h.symm x) = x := by rw [Shape.reshapeEquiv_reshapeEquiv, Shape.reshapeEquiv_self]
  show v.read (Elt F) _ (r.emb x) = v.read (Elt F) _ (r.emb (Shape.reshapeEquiv h (Shape.reshapeEquiv h.symm x)))
  rw [e']

/-- A rectangle read through another shape, after a store through the rectangle, gives what was stored. -/
theorem read_stored {κ : Kind} {sp : Space} {s s' : Shape} {e : EltTy} (v : View sig κ sp s e) (r : Rect s) (h : s'.numel = r.shape.numel)
    (f : v.ty.Contents (Elt F)) (w : r.shape.Idx → Elt F e) (x : s'.Idx) :
    ((v.slice r).reshape s' h).read (Elt F) ((v.slice r).write (Elt F) f w Finset.univ) x = w (Shape.reshapeEquiv h x) :=
  View.read_write_of_mem (v := v.slice r) f w (Finset.mem_univ (Shape.reshapeEquiv h x))

/-- A view filled last with what some contents read as agrees with those contents on its elements. -/
theorem filled_agree {κ : Kind} {sp : Space} {s : Shape} {e : EltTy} (v : View sig κ sp s e) (f g : v.ty.Contents (Elt F)) (w : s.Idx → Elt F e)
    (l : List (View.Piece (Elt F) s e)) (hg : ∀ x, v.read (Elt F) g x = w x) :
    ∀ i ∈ v.set, v.writes (Elt F) f (⟨Rect.whole s, w⟩ :: l) i = g i := by
  intro i hi
  obtain ⟨x, -, rfl⟩ := Finset.mem_map.mp hi
  exact View.eq_of_read_eq ((read_filled v f w l x).trans (hg x).symm)

/-- The row-major matching of a `256 × 256` block with a slot puts the unit axis in front. -/
theorem block_match {a b : ℕ} (h : (⟨2, ![a, b]⟩ : Shape).numel = (⟨3, ![1, a, b]⟩ : Shape).numel) (x : (⟨2, ![a, b]⟩ : Shape).Idx) :
    Shape.reshapeEquiv h x = ix3 (n0 := 1) (n1 := a) (n2 := b) 0 (x 0) (x 1) := by
  have e := ValueIdx.reshapeEquiv_ix2_1ab h (x 0) (x 1)
  rwa [← show x = ix2 (n0 := a) (n1 := b) (x 0) (x 1) from eq_ix2 x] at e

/-- and the other way drops it. -/
theorem block_match_back {a b : ℕ} (h : (⟨3, ![1, a, b]⟩ : Shape).numel = (⟨2, ![a, b]⟩ : Shape).numel) (x : (⟨3, ![1, a, b]⟩ : Shape).Idx) :
    Shape.reshapeEquiv h x = ix2 (n0 := a) (n1 := b) (x 1) (x 2) := by
  have e := block_match h.symm (ix2 (n0 := a) (n1 := b) (x 1) (x 2))
  have hx : x = ix3 (n0 := 1) (n1 := a) (n2 := b) 0 (x 1) (x 2) := by
    have h0 : (x 0).val < 1 := (x 0).isLt
    exact Shape.idx3_ext (by show (x 0).val = 0; omega) rfl rfl
  have e2 : x = Shape.reshapeEquiv h.symm (ix2 (n0 := a) (n1 := b) (x 1) (x 2)) := hx.trans e.symm
  conv_lhs => rw [e2]
  rw [Shape.reshapeEquiv_reshapeEquiv, Shape.reshapeEquiv_self]

/-! ## The operands -/

/-- The buffer of `x`, filled by a transfer of the whole argument, holds the argument. -/
theorem x_filled (f g : Vec F S512x512 .f32) :
    (xM.view.write (Elt F) f (ReadAs.same.apply (xArgM.view.read (Elt F) g)) Finset.univ : Vec F S512x512 .f32) = g :=
  xM.view.read_write_univ (Val := Elt F) f g

/-- so a load of the columns the partner keeps gives them, -/
theorem x_them (c : Dev nD) (f : Vec F S512x512 .f32) :
    xM.view.readAt (Elt F) (Rect.unit (s := S512x512) (k0_off1 c) S512x256.size (k0_off1_inb c)).toLoadRect
      (xM.view.write (Elt F) f (ReadAs.same.apply (xArgM.view.read (Elt F) (m ((c : Thread nD τ).loc main_arg0)))) Finset.univ) = xThem m c :=
  congrArg (xM.view.readAt (Elt F) (Rect.unit (s := S512x512) (k0_off1 c) S512x256.size (k0_off1_inb c)).toLoadRect) (x_filled f _)

/-- and of the device's own columns those. -/
theorem x_mine (c : Dev nD) (f : Vec F S512x512 .f32) :
    xM.view.readAt (Elt F) (Rect.unit (s := S512x512) (k0_off2 c) S512x256.size (k0_off2_inb c)).toLoadRect
      (xM.view.write (Elt F) f (ReadAs.same.apply (xArgM.view.read (Elt F) (m ((c : Thread nD τ).loc main_arg0)))) Finset.univ) = xMine m c :=
  congrArg (xM.view.readAt (Elt F) (Rect.unit (s := S512x512) (k0_off2 c) S512x256.size (k0_off2_inb c)).toLoadRect) (x_filled f _)

/-- A staging slot into which column block `j` of `dy` was transferred last reads as that block. -/
theorem dy_staged (c : Dev nD) (k : Fin 2) (j : Fin 8) (f : (dyM k).view.ty.Contents (Elt F)) (w : S512x256.Idx → Elt F .f32)
    (l : List (View.Piece (Elt F) S512x256 .f32))
    (hw : w = ReadAs.same.apply (((Memref.whole main_arg1 : Memref sig .tc .hbm S512x2048 .f32).slice (dyColsR j) (fun _ => rfl)).view.read (Elt F)
      (m ((c : Thread nD τ).loc main_arg1)))) :
    (Memref.whole cc0_scratch1 : Memref sig .tc .vmem S2x512x256 .f32).view.readAt (Elt F) (dySlotR k).toLoadRect
        ((dyM k).view.writes (Elt F) f (⟨Rect.whole S512x256, w⟩ :: l)) = dyChunk m c j := by
  subst hw
  funext x
  refine (read_staged (Memref.whole cc0_scratch1 : Memref sig .tc .vmem S2x512x256 .f32).view (dySlotR k) squeezes_S1x512x256_S512x256.numel_eq f _ l x).trans ?_
  rw [show Shape.reshapeEquiv _ x = ix2 (n0 := 512) (n1 := 256) (x 1) (x 2) from block_match_back _ x]
  exact congrArg (m ((c : Thread nD τ).loc main_arg1)) (dyCols_emb j (ix2 (n0 := 512) (n1 := 256) (x 1) (x 2)))

/-! ## The exchange -/

/-- A send slot into which the block for the partner was stored reads as that block. -/
theorem send_held (c : Dev nD) (j : Fin 8) (f g : (sendM j).view.ty.Contents (Elt F)) (w : Vec F S1x256x256 .bf16)
    (hf : f = (((Memref.whole cc0_scratch2 : Memref sig .tc .vmem S8x256x256 .bf16).access (slotR j)).write (Elt F) g w Finset.univ))
    (hw : w = sent m c j) :
    (sendM j).view.read (Elt F) f = fun i => sent m c j (ix3 (n0 := 1) (n1 := 256) (n2 := 256) 0 (i 0) (i 1)) := by
  subst hf; subst hw
  funext x
  refine (read_stored (Memref.whole cc0_scratch2 : Memref sig .tc .vmem S8x256x256 .bf16).view (slotR j) squeezes_S1x256x256_S256x256.numel_eq g (sent m c j) x).trans ?_
  exact congrArg (sent m c j) (block_match _ x)

/-- A receive slot in which the partner's block landed reads as that block. -/
theorem recv_read (c : Dev nD) (j : Fin 8) :
    (Memref.whole cc0_scratch3 : Memref sig .tc .vmem S8x256x256 .bf16).view.readAt (Elt F) (slotR j).toLoadRect (landed m c)
      = sent m (peer c) j := by
  funext x
  refine (congrArg (landed m c) (slot_idx j x)).trans ?_
  refine congrArg (sent m (peer c) j) ?_
  have h0 : (x 0).val < 1 := (x 0).isLt
  refine Shape.idx3_ext ?_ rfl rfl
  show 0 = (x 0).val; omega

/-- A block read out of the send slot and written into the partner's receive slot leaves there what `landed` names. -/
theorem landed_slot (c : Dev nD) (j : Fin 8) (fs : Buf (Elt F) ((sendM j).view.loc (c : Thread nD τ)))
    (fd : Buf (Elt F) ((recvM j).view.loc (peer c : Thread nD τ)))
    (hs : (sendM j).view.read (Elt F) fs = fun i => sent m c j (ix3 (n0 := 1) (n1 := 256) (n2 := 256) 0 (i 0) (i 1))) :
    recvPts (peer c) j ((recvM j).view.write (Elt F) fd ((sendM j).view.read (Elt F) fs) Finset.univ) ⊢ recvPay m (peer c) j := by
  unfold recvPay
  refine Entails.of_eq (pointsTo_congr ?_)
  intro i hi
  obtain ⟨x, -, rfl⟩ := Finset.mem_map.mp hi
  rw [View.write_emb_of_mem _ _ (Finset.mem_univ x), hs]
  have e : (recvM j).view.emb x = ix3 (n0 := 8) (n1 := 256) (n2 := 256) j (x 0) (x 1) := slot_emb j _ x
  rw [e]
  show _ = sent m (peer (peer c)) j (ix3 (n0 := 1) (n1 := 256) (n2 := 256) 0 (x 0) (x 1))
  rw [peer_peer]; rfl

/-! ## The result -/

/-- Device `c`'s own part of column block `j` of its result. -/
def mine (c : Dev nD) (j : Fin 8) : Vec F S256x256 .f32 := k0_pay5 (k0_pay2 (dyChunk m c j)) (xMine m c)

/-- Column block `j` of device `c`'s result: its own part plus the one its partner sent. -/
def outBlk (c : Dev nD) (j : Fin 8) : Vec F S256x256 .f32 := k0_pay27 (mine m c j) (sent m (peer c) j)

/-- Device `c`'s result. -/
def outVal (c : Dev nD) : Vec F S256x2048 .f32 := fun i =>
  outBlk m c ⟨(i 1).val / 256, by have h : (i 1).val < 2048 := (i 1).isLt; omega⟩
    (ix2 (n0 := 256) (n1 := 256) (i 0) ⟨(i 1).val % 256, Nat.mod_lt _ (by decide)⟩)

/-- Column block `j` of a device's result is that block. -/
theorem outVal_cols (c : Dev nD) (j : Fin 8) (x : S256x256.Idx) : outVal m c ((colsR j).emb x) = outBlk m c j x := by
  rw [cols_emb]
  have h : (x 1).val < 256 := (x 1).isLt
  unfold outVal
  refine congr (congrArg (outBlk m c) (Fin.ext ?_)) (Shape.idx_ext₂ rfl ?_)
  · show (256 * j.val + (x 1).val) / 256 = j.val; omega
  · show (256 * j.val + (x 1).val) % 256 = (x 1).val; omega

/-- A column block of the accumulator reads as what was stored there last. -/
theorem acc_read (j : Fin 8) (f : (accM j).view.ty.Contents (Elt F)) (w : Vec F S256x256 .f32) :
    (accM j).view.read (Elt F) (((Memref.whole cc0_scratch4 : Memref sig .tc .vmem S256x2048 .f32).access (colsR j)).write (Elt F) f w Finset.univ) = w :=
  View.read_write_univ (v := (Memref.whole cc0_scratch4 : Memref sig .tc .vmem S256x2048 .f32).access (colsR j)) (Val := Elt F) f w

/-- The block the device transfers to its result: its own part, computed from the staged operands and stored in the
    accumulator, plus the partner's part, read out of the receive slot. -/
theorem out_made (c : Dev nD) (k : Fin 2) (j : Fin 8) (fx : Vec F S512x512 .f32)
    (f : (dyM k).view.ty.Contents (Elt F)) (w : S512x256.Idx → Elt F .f32) (l : List (View.Piece (Elt F) S512x256 .f32))
    (hw : w = ReadAs.same.apply (((Memref.whole main_arg1 : Memref sig .tc .hbm S512x2048 .f32).slice (dyColsR j) (fun _ => rfl)).view.read (Elt F)
      (m ((c : Thread nD τ).loc main_arg1))))
    (own : Vec F S256x256 .f32)
    (hown : own = k0_pay5 (k0_pay2 ((Memref.whole cc0_scratch1 : Memref sig .tc .vmem S2x512x256 .f32).view.readAt (Elt F) (dySlotR k).toLoadRect
          ((dyM k).view.writes (Elt F) f (⟨Rect.whole S512x256, w⟩ :: l))))
        (xM.view.readAt (Elt F) (Rect.unit (s := S512x512) (k0_off2 c) S512x256.size (k0_off2_inb c)).toLoadRect
          (xM.view.write (Elt F) fx (ReadAs.same.apply (xArgM.view.read (Elt F) (m ((c : Thread nD τ).loc main_arg0)))) Finset.univ)))
    (g : (accM j).view.ty.Contents (Elt F)) :
    ReadAs.same.apply ((accM j).view.read (Elt F)
      (((Memref.whole cc0_scratch4 : Memref sig .tc .vmem S256x2048 .f32).access (colsR j)).write (Elt F) g
        (k0_pay27 own
          ((Memref.whole cc0_scratch3 : Memref sig .tc .vmem S8x256x256 .bf16).view.readAt (Elt F) (slotR j).toLoadRect (landed m c))) Finset.univ))
      = outBlk m c j := by
  refine (acc_read j g _).trans ?_
  rw [recv_read, hown, dy_staged m c k j f w l hw, x_mine]
  rfl

/-- A column block of the result into which the finished block was transferred holds the result there. -/
theorem out_held (c : Dev nD) (j : Fin 8) (f : Buf (Elt F) ((outM j).view.loc (c : Thread nD τ))) (w : S256x256.Idx → Elt F .f32)
    (l : List (View.Piece (Elt F) S256x256 .f32)) :
    outPts c j ((outM j).view.writes (Elt F) f (⟨Rect.whole S256x256, w⟩ :: l)) ⊢ iprop(⌜w = outBlk m c j⌝ -∗ outPts c j (outVal m c)) := by
  iintro H %hw
  subst hw
  iapply (Entails.of_eq (pointsTo_congr (filled_agree (outM j).view f (outVal m c) (outBlk m c j) l fun x => outVal_cols m c j x))) $$ H

end Cert.KernelIdealProof
-- ==== Proof.KernelIdeal.Body.lean ====
/-
# The body's exchange steps

What every device knows of the cells, and each step in which devices meet, stated once for every block: the barrier's
signal and wait, a remote copy, and the waits on its departure and on its arrival.
-/
module

public import proofs.«01_k».proof.Proof.KernelIdeal.Protocol
public import proofs.«01_k».proof.Proof.KernelIdeal.Values

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

variable (m : (ℓ : Loc nD τ sig) → Buf (Elt F) ℓ)

/-- The kernel's loops need no variants. -/
abbrev 𝒱₀ : Variants := Variants.none

/-! ## The records every core holds -/

/-- Every cell's invariant and its first round. -/
def records (K : Dev nD × CI → ℕ) : sProp 𝕄 :=
  iprop((bigSep Finset.univ fun x : Dev nD × CI => cellInv ER (exRd m) (K x) (kcell x))
    ∗ bigSep Finset.univ fun x : Dev nD × CI => reached ER (kcell x) 0)

/-- The records can be kept by everyone. -/
instance records_persistent (K : Dev nD × CI → ℕ) : BI.Persistent (records m K) := by unfold records; infer_instance

/-- One cell's invariant out of the records, -/
theorem records_inv (K : Dev nD × CI → ℕ) (x : Dev nD × CI) : records m K ⊢ cellInv ER (exRd m) (K x) (kcell x) := by
  unfold records
  iintro ⟨H, -⟩
  iapply (show (bigSep Finset.univ fun x : Dev nD × CI => (cellInv ER (exRd m) (K x) (kcell x) : sProp 𝕄)) ⊢ _ from bigSep_elim (Finset.mem_univ x))
  iexact H
/-- and its first round. -/
theorem records_reached (K : Dev nD × CI → ℕ) (x : Dev nD × CI) : records m K ⊢ reached ER (kcell x) 0 := by
  unfold records
  iintro ⟨-, H⟩
  iapply (show (bigSep Finset.univ fun x : Dev nD × CI => (reached ER (kcell x) 0 : sProp 𝕄)) ⊢ _ from bigSep_elim (Finset.mem_univ x))
  iexact H

variable (K : Dev nD × CI → ℕ)

/-! ## One block's transfer -/

/-- Erasing a block from those owed leaves the others and that block's credit. -/
theorem owedTo_erase (c : Dev nD) {B : Finset (Fin 8)} {j : Fin 8} (hj : j ∈ B) :
    owedTo c B = owedTo c (B.erase j) + tallyAt (recvCell (peer c) j) () N := by
  unfold owedTo; exact (Finset.sum_erase_add _ _ hj).symm

omit [FloatOps F] in
/-- With every block sent nothing is owed. -/
theorem owes_settled (c : Dev nD) {B : Finset (Fin 8)} (hB : B = ∅) (W : Waits sig Unit) :
    (owes (c : Thread nD τ) (owedTo c B) W : sProp 𝕄) ⊢ owes (c : Thread nD τ) 0 W := by
  subst hB; unfold owedTo; rw [Finset.sum_empty]

/-- All of device `c`'s receive slots, over some contents. -/
def recvAll (c : Dev nD) : sProp 𝕄 := bigSep Finset.univ fun j : Fin 8 => iprop(∃ f, recvPts c j f)

/-- The transfer of block `j` to the partner: the send slot, holding the block, and the partner's receive slot go in; the
    departure's credit comes out and block `j` is owed no more. -/
theorem wp_send_block (c n : Dev nD) (hn : n = peer c) (j : Fin 8) {B : Finset (Fin 8)} (hj : j ∈ B)
    {hsc : (recvM j : Memref sig (Dev.tc n : Thread nD τ).2.kind .vmem S256x256 .bf16).view.ref.isScScratch = false}
    {hsrc : (sendM j).view.WordExact} {hdst : (recvM j : Memref sig .tc .vmem S256x256 .bf16).view.WordExact}
    {hsem : DmaTarget.Typed .vmem (.dma (recvS j)) (.remote (Dev.tc n : Thread nD τ) (recvM j) (.dma (sendS j)) hsc)}
    {α : Type} {Q : α → sProp 𝕄} {k : PUnit → Prog (TpuEff nD τ sig (Elt F) Λ₀ .tc) α}
    (fs : Buf (Elt F) ((sendM j).view.loc (c : Thread nD τ)))
    (W : Waits sig Unit) :
    records m K
      ⊢ iprop(sendPts c j fs -∗ ⌜(sendM j).view.read (Elt F) fs = fun i => sent m c j (ix3 (n0 := 1) (n1 := 256) (n2 := 256) 0 (i 0) (i 1))⌝
          -∗ (∃ fd, recvPts (peer c) j fd) -∗ owes (c : Thread nD τ) (owedTo c B) W
          -∗ dutyTok ER (sendCell c j) 0 () -∗ dutyTok ER (recvCell (peer c) j) 0 ()
          -∗ ((cred (tallyAt (sendCell c j) () N) ∗ owes (c : Thread nD τ) (owedTo c (B.erase j)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sendM j) (.remote (Dev.tc n : Thread nD τ) (recvM j) (.dma (sendS j)) hsc) (.dma (recvS j)) hsrc hdst hsem) k) Q) := by
  subst hn
  iintro #HR Hs %hs ⟨%fd, Hd⟩ HO Ht Hu Hk
  iapply (Rounds.wp_send_pointsTo 𝒱₀ ER (exRd m) (c : Thread nD τ) none (κ₁ := K (c, .inr (.inl j))) (κ₂ := K (peer c, .inr (.inr j)))
    (r₁ := 0) (r₂ := 0) (d₁ := ()) (d₂ := ()) (fd := fd)
    (by rw [duties_send]; exact Finset.mem_singleton_self _) (by rw [duties_recv]; exact Finset.mem_singleton_self _)
    () () N rfl (amount_send m c j ()) (amount_recv m (peer c) j ()) (owedTo c (B.erase j)) (owedTo_erase c hj) (W := W)
    (by rw [payload_send]; unfold sendPay; iintro H; iexists fs; iexact H)
    (by rw [payload_recv]; exact landed_slot m c j fs fd hs)) $$ [Hs Hd HO Ht Hu] [Hk]
  · isplitr; · iapply (records_inv m K (c, .inr (.inl j))); iexact HR
    isplitr; · iapply (records_inv m K (peer c, .inr (.inr j))); iexact HR
    isplitl [Hs]; · iexact Hs
    isplitl [Hd]; · iexact Hd
    isplitl [HO]; · iexact HO
    isplitl [Ht]; · iexact Ht
    isplitr; · iapply (records_reached m K (c, .inr (.inl j))); iexact HR
    isplitl [Hu]; · iexact Hu
    iapply (records_reached m K (peer c, .inr (.inr j))); iexact HR
  · iexact Hk

/-- The wait for the partner's block `j`: the receive slot holding it, and the spent cell's counter, come out. -/
theorem wp_wait_block (c : Dev nD) (j : Fin 8) {hs : (sendM j).view.WordExact} {hd : (recvM j).view.WordExact}
    {α : Type} {Q : α → sProp 𝕄} {k : PUnit → Prog (TpuEff nD τ sig (Elt F) Λ₀ .tc) α} (W : Waits sig Unit) :
    records m K
      ⊢ iprop(atPos ER (recvCell c j) 0 ∅ 0 -∗ cred (tallyAt (recvCell c j) () N) -∗ owes (c : Thread nD τ) 0 W
          -∗ ((recvPts c j (landed m c) ∗ semVal (recvCell c j) 0 ∗ owes (c : Thread nD τ) 0 (insert (SemLoc.dma (recvS j), ()) W))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvS j) (sendM j) (recvM j) hs hd) k) Q) := by
  iintro #HR Hat Hc HO Hk
  iapply (Rounds.wp_wait_rest_token 𝒱₀ ER (exRd m) (c : Thread nD τ) none (κ := K (c, .inr (.inr j)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (records_inv m K (c, .inr (.inr j))); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c j)) $$ Hpay
  ihave #HI := (records_inv m K (c, .inr (.inr j))) $$ HR
  imod (Rounds.cell_close ER (exRd m) (Set.mem_univ (K (c, .inr (.inr j)))) (fun h => h) (R := 0 + 1) (duties_later m (recvCell c j))) $$ [Hat] with Hz
  · isplitr; · iexact HI
    iexact Hat
  iapply Hk
  isplitl [Hp]; · unfold recvPay; iexact Hp
  isplitl [Hz] <;> iassumption

/-- The wait for block `j`'s departure: the send slot and the spent cell's counter come out. -/
theorem wp_wait_departed (c : Dev nD) (j : Fin 8) {hs : (recvM j).view.WordExact} {hd : (sendM j).view.WordExact}
    {α : Type} {Q : α → sProp 𝕄} {k : PUnit → Prog (TpuEff nD τ sig (Elt F) Λ₀ .tc) α} (W : Waits sig Unit) :
    records m K
      ⊢ iprop(atPos ER (sendCell c j) 0 ∅ 0 -∗ cred (tallyAt (sendCell c j) () N) -∗ owes (c : Thread nD τ) 0 W
          -∗ (((∃ f, sendPts c j f) ∗ semVal (sendCell c j) 0 ∗ owes (c : Thread nD τ) 0 (insert (SemLoc.dma (sendS j), ()) W))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendS j) (recvM j) (sendM j) hs hd) k) Q) := by
  iintro #HR Hat Hc HO Hk
  iapply (Rounds.wp_wait_rest_token 𝒱₀ ER (exRd m) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (records_inv m K (c, .inr (.inl j))); iexact HR
    isplitl [Hc]; · iexact Hc
    isplitl [HO]; · iexact HO
    isplitr; · rw [MayWait_zero]; iempintro
    iexact Hat
  iintro ⟨HO, Hat, -, Hpay⟩
  ihave Hp := (Entails.of_eq (rest_send m c j)) $$ Hpay
  ihave #HI := (records_inv m K (c, .inr (.inl j))) $$ HR
  imod (Rounds.cell_close ER (exRd m) (Set.mem_univ (K (c, .inr (.inl j)))) (fun h => h) (R := 0 + 1) (duties_later m (sendCell c j))) $$ [Hat] with Hz
  · isplitr; · iexact HI
    iexact Hat
  iapply Hk
  isplitl [Hp]; · unfold sendPay; iexact Hp
  isplitl [Hz] <;> iassumption

/-- The signal to the partner's barrier hands it this device's receive slots. -/
theorem wp_signal_peer (c n : Dev nD) (hn : n = peer c)
    {α : Type} {Q : α → sProp 𝕄} {k : PUnit → Prog (TpuEff nD τ sig (Elt F) Λ₀ .tc) α} (W : Waits sig Unit) :
    records m K
      ⊢ iprop(recvAll c -∗ owes (c : Thread nD τ) (O₀ c) W
          -∗ dutyTok ER (barCell (peer c)) 0 ()
          -∗ (owes (c : Thread nD τ) (owedTo c Finset.univ) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n, Proc.tc) barS (1#32).toInt) k) Q) := by
  subst hn
  iintro #HR Hr HO Ht Hk
  iapply (Rounds.wp_signal 𝒱₀ ER (exRd m) (c : Thread nD τ) none (dst := (peer c : Thread nD τ)) (κ := K (peer c, .inl ()))
      (d := ()) (by rw [duties_bar]; exact Finset.mem_univ _) ((amount_bar m (peer c) ()).trans (by decide)) () (owedTo c Finset.univ) rfl)
    $$ [HO Ht Hr] [Hk]
  · isplitr; · iapply (records_inv m K (peer c, .inl ())); iexact HR
    isplitl [HO]; · iexact HO
    isplitl [Ht]; · iexact Ht
    isplitl [Hr]; · rw [payload_bar]; unfold barPay; rw [peer_peer]; unfold recvAll; iexact Hr
    iapply (records_reached m K (peer c, .inl ())); iexact HR
  · iexact Hk

/-- The wait on the own barrier hands over the partner's receive slots. -/
theorem wp_wait_peer (c : Dev nD)
    {α : Type} {Q : α → sProp 𝕄} {k : PUnit → Prog (TpuEff nD τ sig (Elt F) Λ₀ .tc) α} (W : Waits sig Unit) :
    records m K
      ⊢ iprop(levAts L lv -∗ atPos ER (barCell c) 0 ∅ 0 -∗ cred (tallyAt (barCell c) () 1) -∗ owes (c : Thread nD τ) (owedTo c Finset.univ) W
          -∗ (((bigSep Finset.univ fun j : Fin 8 => iprop(∃ f, recvPts (peer c) j f)) ∗ semVal (barCell c) 0
              ∗ owes (c : Thread nD τ) (owedTo c Finset.univ) (insert (SemLoc.reg barS, ()) W))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (1#32).toInt) k) Q) := by
  iintro #HR #Hlev Hat Hc HO Hk
  iapply (Rounds.wp_wait_rest_token 𝒱₀ ER (exRd m) (c : Thread nD τ) none (κ := K (c, .inl ()))
      (wpE_semWait_eq 𝒱₀ (c : Thread nD τ) none Set.univ) (Set.mem_univ _) () (O := owedTo c Finset.univ) (W := W) (R := 0) (m := 0) (T := ∅)
      (by rw [expect_bar]; decide)) $$ [Hc HO Hat]
  · isplitr; · iapply (records_inv m K (c, .inl ())); iexact HR
    isplitl [Hc]; · iexact Hc
    isplitl [HO]; · iexact HO
    isplitr; · iapply (mayWait_owedTo c (.reg barS) (fun _ => le_refl 1) Finset.univ); iexact Hlev
    iexact Hat
  iintro ⟨HO, Hat, -, Hpay⟩
  ihave Hp := (Entails.of_eq (rest_bar m c)) $$ Hpay
  ihave #HI := (records_inv m K (c, .inl ())) $$ HR
  imod (Rounds.cell_close ER (exRd m) (Set.mem_univ (K (c, .inl ()))) (fun h => h) (R := 0 + 1) (duties_later m (barCell c))) $$ [Hat] with Hz
  · isplitr; · iexact HI
    iexact Hat
  iapply Hk
  isplitl [Hp]; · unfold barPay; iexact Hp
  isplitl [Hz] <;> iassumption

end Cert.KernelIdealProof
-- ==== Proof.KernelIdeal.Run.lean ====
/-
# The body from start to end

What a device holds when its kernel begins and when it ends, and the run between the two, on a device named by a variable.
-/
module

public import proofs.«01_k».proof.Proof.KernelIdeal.Body

@[expose] public section

noncomputable section

namespace Cert.KernelIdealProof

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

variable (m : (ℓ : Loc nD τ sig) → Buf (Elt F) ℓ)
variable (K : Dev nD × CI → ℕ)

omit [FloatOps F] in
/-- A conjunction over eight, written out. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A device's resources when its kernel starts. -/
def bodyStart (K : Dev nD × CI → ℕ) (c : Dev nD) (W : Waits sig Unit) : sProp 𝕄 :=
    iprop(records m K ∗ levAts L lv
      ∗ xArgPts (F := F) c (m ((c : Thread nD τ).loc main_arg0))
      ∗ dyArgPts (F := F) c (m ((c : Thread nD τ).loc main_arg1))
      ∗ (∃ f, xPts (F := F) c f)
      ∗ (∃ f, dyPts c 0 f) ∗ (∃ f, dyPts c 1 f)
      ∗ (bigSep Finset.univ fun j : Fin 8 => outPts c j (m ((c : Thread nD τ).loc main_v1)))
      ∗ (bigSep Finset.univ fun j : Fin 8 => iprop(∃ f, sendPts c j f))
      ∗ recvAll c
      ∗ (bigSep Finset.univ fun j : Fin 8 => iprop(∃ f, accPts c j f))
      ∗ semVal ((c : Thread nD τ), .dma (cc0_scratch5 : DmaSems sig S_).sem) 0
      ∗ semVal ((c : Thread nD τ), .dma (dyS 0)) 0
      ∗ semVal ((c : Thread nD τ), .dma (dyS 1)) 0
      ∗ (bigSep Finset.univ fun j : Fin 8 => semVal ((c : Thread nD τ), .dma (outS j)) 0)
      ∗ owes (c : Thread nD τ) (O₀ c) W ∗ dutyTok ER (barCell (peer c)) 0 ()
      ∗ atPos ER (barCell c) 0 ∅ 0 ∗ cred (tallyAt (barCell c) () 1)
      ∗ (bigSep Finset.univ fun j : Fin 8 => dutyTok ER (sendCell c j) 0 ())
      ∗ (bigSep Finset.univ fun j : Fin 8 => dutyTok ER (recvCell (peer c) j) 0 ())
      ∗ (bigSep Finset.univ fun j : Fin 8 => atPos ER (sendCell c j) 0 ∅ 0)
      ∗ (bigSep Finset.univ fun j : Fin 8 => atPos ER (recvCell c j) 0 ∅ 0)
      ∗ (bigSep Finset.univ fun j : Fin 8 => cred (tallyAt (recvCell c j) () N)))

/-- and when it has ended. -/
def bodyEnd (c : Dev nD) : sProp 𝕄 :=
    iprop(xArgPts (F := F) c (m ((c : Thread nD τ).loc main_arg0))
      ∗ dyArgPts (F := F) c (m ((c : Thread nD τ).loc main_arg1))
      ∗ (bigSep Finset.univ fun j : Fin 8 => outPts c j (outVal m c))
      ∗ (∃ f, xPts (F := F) c f)
      ∗ (∃ f, dyPts c 0 f) ∗ (∃ f, dyPts c 1 f)
      ∗ (bigSep Finset.univ fun j : Fin 8 => iprop(∃ f, sendPts c j f))
      ∗ (bigSep Finset.univ fun j : Fin 8 => recvPts c j (landed m c))
      ∗ (bigSep Finset.univ fun j : Fin 8 => iprop(∃ f, accPts c j f))
      ∗ semVal ((c : Thread nD τ), .dma (cc0_scratch5 : DmaSems sig S_).sem) 0
      ∗ semVal ((c : Thread nD τ), .dma (dyS 0)) 0
      ∗ semVal ((c : Thread nD τ), .dma (dyS 1)) 0
      ∗ (bigSep Finset.univ fun j : Fin 8 => semVal ((c : Thread nD τ), .dma (outS j)) 0)
      ∗ semVal (barCell c) 0
      ∗ (bigSep Finset.univ fun j : Fin 8 => semVal (sendCell c j) 0)
      ∗ (bigSep Finset.univ fun j : Fin 8 => semVal (recvCell c j) 0)
      ∗ ∃ W, owes (c : Thread nD τ) 0 W)

set_option maxHeartbeats 4000000 in
/-- The kernel on one device, from start to end. -/
theorem body_runs (c : Dev nD) (W : Waits sig Unit) :
    bodyStart m K c W
      ⊢ wp frame (wpE (defs₀ (F := F)) 𝒱₀ (c : Thread nD τ) none) Set.univ (bodyAt0 (F := F) t0_0) fun _ => bodyEnd m c := by
  show _ ⊢ wp frame (wpE (defs₀ (F := F)) 𝒱₀ (c : Thread nD τ) none) Set.univ (cc0_body (F := F) _ _ _ _ _ _ _ _ _ _ _ _ _ _ _ _ _ _ _ _ _) _
  rw [cc0_body_eq_skeleton]
  unfold bodyStart
  simp only [bigSep_fin8]
  iintro ⟨#HR, #Hlev, Ha, Hb, ⟨%fx, Hx⟩, ⟨%fd0, Hd0⟩, ⟨%fd1, Hd1⟩, ⟨Ho0, Ho1, Ho2, Ho3, Ho4, Ho5, Ho6, Ho7⟩, ⟨⟨%fs0, Hs0⟩, ⟨%fs1, Hs1⟩, ⟨%fs2, Hs2⟩, ⟨%fs3, Hs3⟩, ⟨%fs4, Hs4⟩, ⟨%fs5, Hs5⟩, ⟨%fs6, Hs6⟩, ⟨%fs7, Hs7⟩⟩, Hr, ⟨⟨%fc0, Hc0⟩, ⟨%fc1, Hc1⟩, ⟨%fc2, Hc2⟩, ⟨%fc3, Hc3⟩, ⟨%fc4, Hc4⟩, ⟨%fc5, Hc5⟩, ⟨%fc6, Hc6⟩, ⟨%fc7, Hc7⟩⟩, Sx, Sd0, Sd1, ⟨So0, So1, So2, So3, So4, So5, So6, So7⟩, HO, Ht, Hab, Hcb, ⟨Tsend0, Tsend1, Tsend2, Tsend3, Tsend4, Tsend5, Tsend6, Tsend7⟩, ⟨Trecv0, Trecv1, Trecv2, Trecv3, Trecv4, Trecv5, Trecv6, Trecv7⟩, ⟨Asend0, Asend1, Asend2, Asend3, Asend4, Asend5, Asend6, Asend7⟩, ⟨Arecv0, Arecv1, Arecv2, Arecv3, Arecv4, Arecv5, Arecv6, Arecv7⟩, ⟨Crecv0, Crecv1, Crecv2, Crecv3, Crecv4, Crecv5, Crecv6, Crecv7⟩⟩
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  sl_exec
  iapply (wp_signal_peer m K c _ (dev_eq _ (k0_dev1_eq c)) W) $$ HR Hr HO Ht
  iintro HO
  have hmw := fun (q : DmaSem sig) (B : Finset (Fin 8)) (hq : q.val < 19) => mayWait_owedTo (F := F) c (.dma q) (fun _ => (if_neg (by omega)).le.trans (by decide)) B
  sl_exec
  iapply (wp_wait_peer m K c _) $$ HR Hlev Hab Hcb HO
  rw [bigSep_fin8]
  iintro ⟨⟨Hr0, Hr1, Hr2, Hr3, Hr4, Hr5, Hr6, Hr7⟩, Zb, HO⟩
  sl_exec
  iapply (wp_send_block m K c _ (dev_eq _ (k0_dev2_eq c)) 0 (by decide) _ _) $$ HR Hs0 [] Hr0 HO Tsend0 Trecv0
  · ipureintro; exact send_held m c 0 _ _ _ rfl (congrArg₂ k0_pay3 (x_them m c fx) (dy_staged m c 0 0 _ _ _ rfl))
  iintro ⟨Csend0, HO⟩
  sl_exec
  iapply (wp_send_block m K c _ (dev_eq _ (k0_dev3_eq c)) 1 (by decide) _ _) $$ HR Hs1 [] Hr1 HO Tsend1 Trecv1
  · ipureintro; exact send_held m c 1 _ _ _ rfl (congrArg₂ k0_pay3 (x_them m c fx) (dy_staged m c 1 1 _ _ _ rfl))
  iintro ⟨Csend1, HO⟩
  sl_exec
  iapply (wp_send_block m K c _ (dev_eq _ (k0_dev4_eq c)) 2 (by decide) _ _) $$ HR Hs2 [] Hr2 HO Tsend2 Trecv2
  · ipureintro; exact send_held m c 2 _ _ _ rfl (congrArg₂ k0_pay3 (x_them m c fx) (dy_staged m c 0 2 _ _ _ rfl))
  iintro ⟨Csend2, HO⟩
  sl_exec
  iapply (wp_send_block m K c _ (dev_eq _ (k0_dev5_eq c)) 3 (by decide) _ _) $$ HR Hs3 [] Hr3 HO Tsend3 Trecv3
  · ipureintro; exact send_held m c 3 _ _ _ rfl (congrArg₂ k0_pay3 (x_them m c fx) (dy_staged m c 1 3 _ _ _ rfl))
  iintro ⟨Csend3, HO⟩
  sl_exec
  iapply (wp_send_block m K c _ (dev_eq _ (k0_dev6_eq c)) 4 (by decide) _ _) $$ HR Hs4 [] Hr4 HO Tsend4 Trecv4
  · ipureintro; exact send_held m c 4 _ _ _ rfl (congrArg₂ k0_pay3 (x_them m c fx) (dy_staged m c 0 4 _ _ _ rfl))
  iintro ⟨Csend4, HO⟩
  sl_exec
  iapply (wp_send_block m K c _ (dev_eq _ (k0_dev7_eq c)) 5 (by decide) _ _) $$ HR Hs5 [] Hr5 HO Tsend5 Trecv5
  · ipureintro; exact send_held m c 5 _ _ _ rfl (congrArg₂ k0_pay3 (x_them m c fx) (dy_staged m c 1 5 _ _ _ rfl))
  iintro ⟨Csend5, HO⟩
  sl_exec
  iapply (wp_send_block m K c _ (dev_eq _ (k0_dev8_eq c)) 6 (by decide) _ _) $$ HR Hs6 [] Hr6 HO Tsend6 Trecv6
  · ipureintro; exact send_held m c 6 _ _ _ rfl (congrArg₂ k0_pay3 (x_them m c fx) (dy_staged m c 0 6 _ _ _ rfl))
  iintro ⟨Csend6, HO⟩
  sl_exec
  iapply (wp_send_block m K c _ (dev_eq _ (k0_dev9_eq c)) 7 (by decide) _ _) $$ HR Hs7 [] Hr7 HO Tsend7 Trecv7
  · ipureintro; exact send_held m c 7 _ _ _ rfl (congrArg₂ k0_pay3 (x_them m c fx) (dy_staged m c 1 7 _ _ _ rfl))
  iintro ⟨Csend7, HO⟩
  sl_exec
  ihave HO := (owes_settled c (by decide) _) $$ HO
  iapply (wp_wait_block m K c 0 _) $$ HR Arecv0 Crecv0 HO
  iintro ⟨Hr0, Zr0, HO⟩
  sl_exec
  iapply (wp_wait_block m K c 1 _) $$ HR Arecv1 Crecv1 HO
  iintro ⟨Hr1, Zr1, HO⟩
  sl_exec
  iapply (wp_wait_block m K c 2 _) $$ HR Arecv2 Crecv2 HO
  iintro ⟨Hr2, Zr2, HO⟩
  sl_exec
  iapply (wp_wait_block m K c 3 _) $$ HR Arecv3 Crecv3 HO
  iintro ⟨Hr3, Zr3, HO⟩
  sl_exec
  iapply (wp_wait_block m K c 4 _) $$ HR Arecv4 Crecv4 HO
  iintro ⟨Hr4, Zr4, HO⟩
  sl_exec
  iapply (wp_wait_block m K c 5 _) $$ HR Arecv5 Crecv5 HO
  iintro ⟨Hr5, Zr5, HO⟩
  sl_exec
  iapply (wp_wait_block m K c 6 _) $$ HR Arecv6 Crecv6 HO
  iintro ⟨Hr6, Zr6, HO⟩
  sl_exec
  iapply (wp_wait_block m K c 7 _) $$ HR Arecv7 Crecv7 HO
  iintro ⟨Hr7, Zr7, HO⟩
  sl_exec
  iapply (wp_wait_departed m K c 0 _) $$ HR Asend0 Csend0 HO
  iintro ⟨Hs0, Zs0, HO⟩
  sl_exec
  iapply (wp_wait_departed m K c 1 _) $$ HR Asend1 Csend1 HO
  iintro ⟨Hs1, Zs1, HO⟩
  sl_exec
  iapply (wp_wait_departed m K c 2 _) $$ HR Asend2 Csend2 HO
  iintro ⟨Hs2, Zs2, HO⟩
  sl_exec
  iapply (wp_wait_departed m K c 3 _) $$ HR Asend3 Csend3 HO
  iintro ⟨Hs3, Zs3, HO⟩
  sl_exec
  iapply (wp_wait_departed m K c 4 _) $$ HR Asend4 Csend4 HO
  iintro ⟨Hs4, Zs4, HO⟩
  sl_exec
  iapply (wp_wait_departed m K c 5 _) $$ HR Asend5 Csend5 HO
  iintro ⟨Hs5, Zs5, HO⟩
  sl_exec
  iapply (wp_wait_departed m K c 6 _) $$ HR Asend6 Csend6 HO
  iintro ⟨Hs6, Zs6, HO⟩
  sl_exec
  iapply (wp_wait_departed m K c 7 _) $$ HR Asend7 Csend7 HO
  iintro ⟨Hs7, Zs7, HO⟩
  sl_exec
  ihave Ho0 := (out_held m c 0 _ _ _) $$ Ho0 []
  · ipureintro; exact out_made m c 0 0 fx _ _ _ rfl _ (by rfl) _
  ihave Ho1 := (out_held m c 1 _ _ _) $$ Ho1 []
  · ipureintro; exact out_made m c 1 1 fx _ _ _ rfl _ (by rfl) _
  ihave Ho2 := (out_held m c 2 _ _ _) $$ Ho2 []
  · ipureintro; exact out_made m c 0 2 fx _ _ _ rfl _ (by rfl) _
  ihave Ho3 := (out_held m c 3 _ _ _) $$ Ho3 []
  · ipureintro; exact out_made m c 1 3 fx _ _ _ rfl _ (by rfl) _
  ihave Ho4 := (out_held m c 4 _ _ _) $$ Ho4 []
  · ipureintro; exact out_made m c 0 4 fx _ _ _ rfl _ (by rfl) _
  ihave Ho5 := (out_held m c 5 _ _ _) $$ Ho5 []
  · ipureintro; exact out_made m c 1 5 fx _ _ _ rfl _ (by rfl) _
  ihave Ho6 := (out_held m c 6 _ _ _) $$ Ho6 []
  · ipureintro; exact out_made m c 0 6 fx _ _ _ rfl _ (by rfl) _
  ihave Ho7 := (out_held m c 7 _ _ _) $$ Ho7 []
  · ipureintro; exact out_made m c 1 7 fx _ _ _ rfl _ (by rfl) _
  sl_step
  unfold bodyEnd
  simp only [bigSep_fin8]
  isplitl [Ha]; · iexact Ha
  isplitl [Hb]; · iexact Hb
  isplitl [Ho0 Ho1 Ho2 Ho3 Ho4 Ho5 Ho6 Ho7]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  isplitl [Hx]; · iexists _; iexact Hx
  isplitl [Hd0]; · iexists _; iexact Hd0
  isplitl [Hd1]; · iexists _; iexact Hd1
  isplitl [Hs0 Hs1 Hs2 Hs3 Hs4 Hs5 Hs6 Hs7]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  isplitl [Hr0 Hr1 Hr2 Hr3 Hr4 Hr5 Hr6 Hr7]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  isplitl [Hc0 Hc1 Hc2 Hc3 Hc4 Hc5 Hc6 Hc7]
  · isplitl [Hc0]; · iexists _; iexact Hc0
    isplitl [Hc1]; · iexists _; iexact Hc1
    isplitl [Hc2]; · iexists _; iexact Hc2
    isplitl [Hc3]; · iexists _; iexact Hc3
    isplitl [Hc4]; · iexists _; iexact Hc4
    isplitl [Hc5]; · iexists _; iexact Hc5
    isplitl [Hc6]; · iexists _; iexact Hc6
    iexists _; iexact Hc7
  isplitl [Sx]; · iexact Sx
  isplitl [Sd0]; · iexact Sd0
  isplitl [Sd1]; · iexact Sd1
  isplitl [So0 So1 So2 So3 So4 So5 So6 So7]
  · isplitl [So0]; · iexact So0
    isplitl [So1]; · iexact So1
    isplitl [So2]; · iexact So2
    isplitl [So3]; · iexact So3
    isplitl [So4]; · iexact So4
    isplitl [So5]; · iexact So5
    isplitl [So6]; · iexact So6
    iexact So7
  isplitl [Zb]; · iexact Zb
  isplitl [Zs0 Zs1 Zs2 Zs3 Zs4 Zs5 Zs6 Zs7]
  · isplitl [Zs0]; · iexact Zs0
    isplitl [Zs1]; · iexact Zs1
    isplitl [Zs2]; · iexact Zs2
    isplitl [Zs3]; · iexact Zs3
    isplitl [Zs4]; · iexact Zs4
    isplitl [Zs5]; · iexact Zs5
    isplitl [Zs6]; · iexact Zs6
    iexact Zs7
  isplitl [Zr0 Zr1 Zr2 Zr3 Zr4 Zr5 Zr6 Zr7]
  · isplitl [Zr0]; · iexact Zr0
    isplitl [Zr1]; · iexact Zr1
    isplitl [Zr2]; · iexact Zr2
    isplitl [Zr3]; · iexact Zr3
    isplitl [Zr4]; · iexact Zr4
    isplitl [Zr5]; · iexact Zr5
    isplitl [Zr6]; · iexact Zr6
    iexact Zr7
  iexists _; iexact HO

end Cert.KernelIdealProof
-- ==== Proof.KernelIdeal.Blocks.lean ====
/-
# Whole buffers and their slots

The launch hands a device its buffers whole; the kernel works on slots and column blocks. This module splits each buffer
into its blocks and joins the blocks back.
-/
module

public import proofs.«01_k».proof.Proof.KernelIdeal.Run

@[expose] public section

noncomputable section

namespace Cert.KernelIdealProof

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

variable (m : (ℓ : Loc nD τ sig) → Buf (Elt F) ℓ)

/-! ## The blocks are disjoint and cover their buffers -/

/-- The slots of an exchange buffer are disjoint, -/
theorem slots_disjoint (i j : Fin 8) (h : i ≠ j) : Disjoint (slotR i).set (slotR j).set :=
  Ring.lead_disjoint (s := S8x256x256) 0 1 (fun j : Fin 8 => ![j.val, 0, 0]) S1x256x256.size inb_slot (fun j => (Nat.one_mul _).symm) rfl i j h
/-- and cover the buffer. -/
theorem slots_cover : (Finset.univ.biUnion fun j => (slotR j).set) = Finset.univ :=
  Ring.lead_cover (s := S8x256x256) 0 1 (fun j : Fin 8 => ![j.val, 0, 0]) S1x256x256.size inb_slot (fun j => (Nat.one_mul _).symm) (by decide) rfl (by decide) (by decide)
/-- The column blocks of a `256 × 2048` array are disjoint, -/
theorem cols_disjoint (i j : Fin 8) (h : i ≠ j) : Disjoint (colsR i).set (colsR j).set :=
  Ring.lead_disjoint (s := S256x2048) 1 256 (fun j : Fin 8 => ![0, 256 * j.val]) S256x256.size inb_cols (fun j => rfl) rfl i j h
/-- and cover the array. -/
theorem cols_cover : (Finset.univ.biUnion fun j => (colsR j).set) = Finset.univ :=
  Ring.lead_cover (s := S256x2048) 1 256 (fun j : Fin 8 => ![0, 256 * j.val]) S256x256.size inb_cols (fun j => rfl) (by decide) rfl (by decide) (by decide)
/-- The two slots of the staging buffer are disjoint, -/
theorem dySlots_disjoint (i j : Fin 2) (h : i ≠ j) : Disjoint (dySlotR i).set (dySlotR j).set :=
  Ring.lead_disjoint (s := S2x512x256) 0 1 (fun j : Fin 2 => ![j.val, 0, 0]) S1x512x256.size inb_dySlot (fun j => (Nat.one_mul _).symm) rfl i j h
/-- and cover the buffer. -/
theorem dySlots_cover : (Finset.univ.biUnion fun j => (dySlotR j).set) = Finset.univ :=
  Ring.lead_cover (s := S2x512x256) 0 1 (fun j : Fin 2 => ![j.val, 0, 0]) S1x512x256.size inb_dySlot (fun j => (Nat.one_mul _).symm) (by decide) rfl (by decide) (by decide)

/-- The entries that the view of a send slot reaches are the slot's, -/
theorem send_set (j : Fin 8) : (sendM j).view.set = (slotR j).set := (View.set_reshape _ _).trans (View.set_slice_whole _ _)
/-- and so for a receive slot, -/
theorem recv_set (j : Fin 8) : (recvM j).view.set = (slotR j).set := (View.set_reshape _ _).trans (View.set_slice_whole _ _)
/-- a staging slot, -/
theorem dy_set (k : Fin 2) : (dyM k).view.set = (dySlotR k).set := (View.set_reshape _ _).trans (View.set_slice_whole _ _)
/-- a column block of the accumulator, -/
theorem acc_set (j : Fin 8) : (accM j).view.set = (colsR j).set := View.set_slice_whole _ _
/-- and a column block of the result. -/
theorem out_set (j : Fin 8) : (outM j).view.set = (colsR j).set := View.set_slice_whole _ _

/-! ## A buffer as its blocks -/

section Generic
variable {ℓ : Loc nD τ sig} {n : ℕ} {I J : Fin n → Finset ℓ.ty.Idx} (hI : ∀ j, I j = J j)
  (hd : ∀ i j, i ≠ j → Disjoint (J i) (J j)) (hc : Finset.univ.biUnion J = Finset.univ)

include hI hd hc

omit [FloatOps F] in
/-- A buffer held whole is its blocks held at the same contents. -/
theorem whole_eq_blocks (f : Buf (Elt F) ℓ) : (ℓ ↦{fullShare} f : sProp 𝕄) = bigSep Finset.univ fun j => ℓ ↦[I j]{fullShare} f := by
  obtain rfl : I = J := funext hI
  exact Ring.pointsTo_blocks I hd hc f

omit [FloatOps F] in
/-- A buffer held at some contents is its blocks, each held at some contents. -/
theorem some_to_blocks : (iprop(∃ f, ℓ ↦{fullShare} f) : sProp 𝕄) ⊢ bigSep Finset.univ fun j => iprop(∃ f, ℓ ↦[I j]{fullShare} f) := by
  iintro ⟨%f, H⟩
  iapply ((Entails.of_eq (whole_eq_blocks (F := F) hI hd hc f)).trans
    (bigSep_mono fun j _ => show (ℓ ↦[I j]{fullShare} f : sProp 𝕄) ⊢ iprop(∃ f, ℓ ↦[I j]{fullShare} f) from by
      iintro H; iexists f; iexact H))
  iexact H

omit [FloatOps F] in
/-- and the blocks join back. -/
theorem blocks_to_some (f₀ : Buf (Elt F) ℓ) : (bigSep Finset.univ fun j => iprop(∃ f, ℓ ↦[I j]{fullShare} f)) ⊢ (iprop(∃ f, ℓ ↦{fullShare} f) : sProp 𝕄) := by
  obtain rfl : I = J := funext hI
  exact Ring.pointsTo_blocks_join_exists I hd hc f₀

end Generic

variable (c : Dev nD)

omit [FloatOps F] in
/-- The send buffer is its eight slots, -/
theorem send_split : (iprop(∃ f, ((c : Thread nD τ).loc cc0_scratch2) ↦{fullShare} f) : sProp 𝕄) ⊢ bigSep Finset.univ fun j : Fin 8 => iprop(∃ f, sendPts (F := F) c j f) :=
  some_to_blocks (ℓ := (c : Thread nD τ).loc cc0_scratch2) send_set slots_disjoint slots_cover
omit [FloatOps F] in
include m in
/-- and the slots are the buffer again. -/
theorem send_join : (bigSep Finset.univ fun j : Fin 8 => iprop(∃ f, sendPts (F := F) c j f)) ⊢ (iprop(∃ f, ((c : Thread nD τ).loc cc0_scratch2) ↦{fullShare} f) : sProp 𝕄) :=
  blocks_to_some (ℓ := (c : Thread nD τ).loc cc0_scratch2) send_set slots_disjoint slots_cover (m _)
omit [FloatOps F] in
/-- The receive buffer is its eight slots, -/
theorem recv_split : (iprop(∃ f, ((c : Thread nD τ).loc cc0_scratch3) ↦{fullShare} f) : sProp 𝕄) ⊢ recvAll c :=
  some_to_blocks (ℓ := (c : Thread nD τ).loc cc0_scratch3) recv_set slots_disjoint slots_cover
/-- and the slots, every block landed, are the buffer again. -/
theorem recv_join : (bigSep Finset.univ fun j : Fin 8 => recvPts c j (landed m c)) ⊢ (iprop(∃ f, ((c : Thread nD τ).loc cc0_scratch3) ↦{fullShare} f) : sProp 𝕄) := by
  iintro H
  iexists (landed m c)
  iapply (Entails.of_eq (whole_eq_blocks (ℓ := (c : Thread nD τ).loc cc0_scratch3) recv_set slots_disjoint slots_cover (landed m c)).symm)
  iexact H
omit [FloatOps F] in
/-- The accumulator is its eight column blocks, -/
theorem acc_split : (iprop(∃ f, ((c : Thread nD τ).loc cc0_scratch4) ↦{fullShare} f) : sProp 𝕄) ⊢ bigSep Finset.univ fun j : Fin 8 => iprop(∃ f, accPts (F := F) c j f) :=
  some_to_blocks (ℓ := (c : Thread nD τ).loc cc0_scratch4) acc_set cols_disjoint cols_cover
omit [FloatOps F] in
include m in
/-- and the blocks are the accumulator again. -/
theorem acc_join : (bigSep Finset.univ fun j : Fin 8 => iprop(∃ f, accPts (F := F) c j f)) ⊢ (iprop(∃ f, ((c : Thread nD τ).loc cc0_scratch4) ↦{fullShare} f) : sProp 𝕄) :=
  blocks_to_some (ℓ := (c : Thread nD τ).loc cc0_scratch4) acc_set cols_disjoint cols_cover (m _)
omit [FloatOps F] in
/-- A conjunction over two, written out. -/
theorem bigSep_fin2 (Φ : Fin 2 → sProp 𝕄) : bigSep Finset.univ Φ = iprop(Φ 0 ∗ Φ 1) :=
  bigSep_univ_eq_bigSepL [0, 1] (by decide) (by decide) Φ
omit [FloatOps F] in
/-- The staging buffer is its two slots, -/
theorem dy_split : (iprop(∃ f, ((c : Thread nD τ).loc cc0_scratch1) ↦{fullShare} f) : sProp 𝕄) ⊢ iprop((∃ f, dyPts (F := F) c 0 f) ∗ ∃ f, dyPts (F := F) c 1 f) :=
  (some_to_blocks (ℓ := (c : Thread nD τ).loc cc0_scratch1) dy_set dySlots_disjoint dySlots_cover).trans (Entails.of_eq (bigSep_fin2 _))
omit [FloatOps F] in
include m in
/-- and the slots are the buffer again. -/
theorem dy_join : iprop((∃ f, dyPts (F := F) c 0 f) ∗ ∃ f, dyPts (F := F) c 1 f) ⊢ (iprop(∃ f, ((c : Thread nD τ).loc cc0_scratch1) ↦{fullShare} f) : sProp 𝕄) :=
  (Entails.of_eq (bigSep_fin2 (fun k : Fin 2 => iprop(∃ f, dyPts (F := F) c k f))).symm).trans
    (blocks_to_some (ℓ := (c : Thread nD τ).loc cc0_scratch1) dy_set dySlots_disjoint dySlots_cover (m _))
omit [FloatOps F] in
/-- The result held whole is its eight column blocks. -/
theorem out_blocks (f : Buf (Elt F) ((c : Thread nD τ).loc main_v1)) :
    (((c : Thread nD τ).loc main_v1) ↦{fullShare} f : sProp 𝕄) = bigSep Finset.univ fun j : Fin 8 => outPts (F := F) c j f :=
  whole_eq_blocks (ℓ := (c : Thread nD τ).loc main_v1) out_set cols_disjoint cols_cover f

end Cert.KernelIdealProof
-- ==== Proof.KernelIdeal.Launch.lean ====
/-
# The launch: from zero counters to the final memory

The ghost set-up of the exchange's cells, the credit each device starts with, what enters and leaves the kernel, and the
run of the whole mesh: every device ends with its rows of the product, its arguments unchanged and every counter at zero.
-/
module

public import proofs.«01_k».proof.Proof.KernelIdeal.Blocks
public import Idealize.ShloMosaic.Lib.Pipeline.CollectiveSegs
public import Idealize.ShloMosaic.Lib.Quiescent

@[expose] public section

noncomputable section

namespace Cert.KernelIdealProof

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 eq_ix2 eq_ix3)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The kernel's own semaphores: the copy of `x`, the two staging copies, the result's copies, departures, arrivals. -/
abbrev OI : Type := Unit ⊕ (Fin 2 ⊕ (Fin 8 ⊕ (Fin 8 ⊕ Fin 8)))
/-- The semaphore that each of them is. -/
abbrev osem : OI → SemLoc sig
  | .inl _ => .dma (cc0_scratch5 : DmaSems sig S_).sem
  | .inr (.inl k) => .dma (dyS k)
  | .inr (.inr (.inl j)) => .dma (outS j)
  | .inr (.inr (.inr (.inl j))) => .dma (sendS j)
  | .inr (.inr (.inr (.inr j))) => .dma (recvS j)

set_option maxRecDepth 4000 in
/-- They are different, scoped, and all that the kernel allocates. -/
theorem ownSemFacts : Pipeline.OwnSemFacts cfg0.spec osem := by decide

/-- The counters of the copies within the device, all zero. -/
def locals (c : Dev nD) : sProp 𝕄 :=
  iprop(semVal ((c : Thread nD τ), .dma (cc0_scratch5 : DmaSems sig S_).sem) 0
    ∗ semVal ((c : Thread nD τ), .dma (dyS 0)) 0 ∗ semVal ((c : Thread nD τ), .dma (dyS 1)) 0
    ∗ bigSep Finset.univ fun j : Fin 8 => semVal ((c : Thread nD τ), .dma (outS j)) 0)

omit [FloatOps F] in
/-- A conjunction over one. -/
theorem bigSep_unit (Φ : Unit → sProp 𝕄) : bigSep Finset.univ Φ = Φ () := bigSep_univ_eq_bigSepL [()] (by decide) (by decide) Φ

omit [FloatOps F] in
/-- A family over a device's cells: the barrier's, the departures', the arrivals'. -/
theorem bigSep_cells (Φ : CI → sProp 𝕄) :
    bigSep Finset.univ Φ = iprop(Φ (.inl ()) ∗ (bigSep Finset.univ fun j => Φ (.inr (.inl j))) ∗ bigSep Finset.univ fun j => Φ (.inr (.inr j))) := by
  rw [BI.bigSep_univ_sum, BI.bigSep_univ_sum, bigSep_unit]; rfl

omit [FloatOps F] in
/-- The kernel's own counters by group. -/
theorem ownSems0_eq (c : Dev nD) : (Pipeline.ownSems0 (Ix := Unit) (Name := ℕ) (U := UU) (Lvl := ℕ) (Val := Elt F) (τ := τ) osem c : sProp 𝕄)
    = iprop(semVal ((c : Thread nD τ), .dma (cc0_scratch5 : DmaSems sig S_).sem) 0
      ∗ (semVal ((c : Thread nD τ), .dma (dyS 0)) 0 ∗ semVal ((c : Thread nD τ), .dma (dyS 1)) 0)
      ∗ (bigSep Finset.univ fun j : Fin 8 => semVal ((c : Thread nD τ), .dma (outS j)) 0)
      ∗ (bigSep Finset.univ fun j : Fin 8 => semVal (sendCell c j) 0)
      ∗ bigSep Finset.univ fun j : Fin 8 => semVal (recvCell c j) 0) := by
  unfold Pipeline.ownSems0
  rw [BI.bigSep_univ_sum, BI.bigSep_univ_sum, BI.bigSep_univ_sum, BI.bigSep_univ_sum, bigSep_unit, bigSep_fin2]; rfl

omit [FloatOps F] in
/-- The barrier's counter is the one the launch hands over unscoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's counters: the local copies', and those of its cells of the exchange. -/
theorem sems0_eq (c : Dev nD) :
    iprop(Pipeline.ownSems0 (Ix := Unit) (Name := ℕ) (U := UU) (Lvl := ℕ) (Val := Elt F) (τ := τ) osem c ∗ unscopedSems0 c)
      ⊢ (iprop(locals c ∗ bigSep Finset.univ fun k : CI => semVal (kcell (c, k)) 0) : sProp 𝕄) := by
  rw [ownSems0_eq, unscopedSems0_eq, bigSep_cells]
  unfold locals
  iintro ⟨⟨Hx, ⟨H0, H1⟩, Ho, HS, HV⟩, HB⟩
  isplitl [Hx H0 H1 Ho]
  · isplitl [Hx]; · iexact Hx
    isplitl [H0]; · iexact H0
    isplitl [H1] <;> iassumption
  isplitl [HB]; · iexact HB
  isplitl [HS] <;> iassumption

/-! ## The exchange's cells and tokens -/

/-- Different cells of a device are different semaphores, -/
theorem csem_injective : Function.Injective csem := by
  rintro (u | j | j) (u' | j' | j') h
  all_goals first | rfl | cases h <;> done | skip
  all_goals
    injection h with h
    have h := congrArg Fin.val h
    simp only [sendS_val, recvS_val] at h
    first | omega | (obtain rfl : j = j' := Fin.ext (by omega); rfl)

/-- and those of different devices lie on different threads. -/
theorem kcell_injective : Function.Injective (kcell : Dev nD × CI → GSem nD τ sig) := by
  rintro ⟨c, k⟩ ⟨c', k'⟩ h
  obtain rfl : c = c' := congrArg (fun g : GSem nD τ sig => g.1.1) h
  obtain rfl : k = k' := csem_injective (congrArg Prod.snd h)
  rfl

/-- All cells of the exchange. -/
def exCells : Finset (GSem nD τ sig) := Finset.univ.map ⟨kcell, kcell_injective⟩
/-- One token per cell. -/
def exToks : Finset (GSem nD τ sig × ℕ × Unit) :=
  Finset.univ.map ⟨fun x => (kcell x, 0, ()), fun _ _ h => kcell_injective (congrArg Prod.fst h)⟩

/-- The ghost state at the start: the launch's cells, the exchange's, and no counters. -/
def u₀ : UU := (initOf (Pipeline.cells cfgs cellOf_inj) (Pipeline.launchToks cfgs cellOf_inj), (initOf exCells exToks, 1))

/-- What the launch deals device `c`: its cells' states, its positions and the tokens of its own cells. -/
def G (c : Dev nD) : sProp 𝕄 :=
  iprop((bigSep Finset.univ fun k : CI => roundState ER (exRd m) (kcell (c, k)) 0)
    ∗ (bigSep Finset.univ fun k : CI => iprop(atPos ER (kcell (c, k)) 0 ∅ 0 ∗ reached ER (kcell (c, k)) 0))
    ∗ bigSep Finset.univ fun k : CI => dutyTok ER (kcell (c, k)) 0 ())

omit [FloatOps F] in
/-- A conjunction over all cells is one over the devices and, on each, over its cells. -/
theorem over_cells (Φ : GSem nD τ sig → sProp 𝕄) :
    bigSep exCells Φ = bigSep Finset.univ fun c : Dev nD => bigSep Finset.univ fun k : CI => Φ (kcell (c, k)) := by
  unfold exCells; rw [bigSep_map, bigSep_univ_prod]; rfl

/-- The exchange's ghost state is every device's part of it. -/
theorem fund_ex : BI.own (ER (initOf exCells exToks)) ⊢ (|==> bigSep Finset.univ (G m) : sProp 𝕄) := by
  have hT : bigSep exToks (fun x => (dutyTok ER x.1 x.2.1 x.2.2 : sProp 𝕄))
      = bigSep Finset.univ fun c : Dev nD => bigSep Finset.univ fun k : CI => dutyTok ER (kcell (c, k)) 0 () := by
    unfold exToks; rw [bigSep_map, bigSep_univ_prod]; rfl
  iintro HX
  imod (Rounds.fund ER (exRd m) exCells exToks) $$ HX with ⟨Hst, Hr, Hat, Htok⟩
  imodintro
  ihave Hst := (Entails.of_eq (over_cells fun g => roundState ER (exRd m) g 0)) $$ Hst
  ihave Hat := (Entails.of_eq (over_cells fun g => atPos ER g 0 ∅ 0)) $$ Hat
  ihave Hr := (Entails.of_eq (over_cells fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The tokens of the duties device `c` pays: its partner's barrier, its own departures, its partner's arrivals. -/
def payToks (c : Dev nD) : sProp 𝕄 :=
  iprop(dutyTok ER (barCell (peer c)) 0 () ∗ (bigSep Finset.univ fun j : Fin 8 => dutyTok ER (sendCell c j) 0 ())
    ∗ bigSep Finset.univ fun j : Fin 8 => dutyTok ER (recvCell (peer c) j) 0 ())

/-- What stays with device `c`: its positions and the tokens it pays with. -/
def linear (c : Dev nD) : sProp 𝕄 := iprop((bigSep Finset.univ fun k : CI => atPos ER (kcell (c, k)) 0 ∅ 0) ∗ payToks c)

/-- What the global step hands device `c`. -/
def G' (c : Dev nD) : sProp 𝕄 := iprop((∃ K, records m K ∗ linear c) ∗ locals c)

/-- A device's counters, all zero, and its cells' states become its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (exRd m) κ (kcell (c, k))))
          ∗ ((bigSep Finset.univ fun k : CI => atPos ER (kcell (c, k)) 0 ∅ 0) ∗ bigSep Finset.univ fun k : CI => reached ER (kcell (c, k)) 0)
          ∗ (bigSep Finset.univ fun k : CI => dutyTok ER (kcell (c, k)) 0 ()) ∗ locals c) := by
  unfold G
  rw [bigSep_sep']
  iintro ⟨Hos, Hus, Hst, Hat, Htok⟩
  ihave Hv := (sems0_eq (F := F) c) $$ [Hos Hus]
  · isplitl [Hos] <;> iassumption
  icases Hv with ⟨Hloc, Hv⟩
  imod (show iprop((bigSep Finset.univ fun k : CI => semVal (kcell (c, k)) 0) ∗ bigSep Finset.univ fun k : CI => roundState ER (exRd m) (kcell (c, k)) 0)
      ⊢ (|={Set.univ}=> bigSep Finset.univ fun k : CI => iprop(∃ κ : ℕ, cellInv ER (exRd m) κ (kcell (c, k))) : sProp 𝕄) from by
        rw [← bigSep_sep']
        exact (bigSep_mono fun k _ => (Rounds.body_intro ER (exRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

omit [FloatOps F] in
/-- The tokens of a barrier and of the arrivals go to the partner. -/
theorem toks_across : (bigSep Finset.univ fun c : Dev nD => bigSep Finset.univ fun k : CI => (dutyTok ER (kcell (c, k)) 0 () : sProp 𝕄))
    ⊢ bigSep Finset.univ fun c : Dev nD => payToks c := by
  unfold payToks
  rw [bigSep_congr (s := Finset.univ) fun (c : Dev nD) _ => bigSep_cells (F := F) fun k => dutyTok ER (kcell (c, k)) 0 (),
    bigSep_sep', bigSep_sep', bigSep_sep', bigSep_sep',
    bigSep_univ_equiv across fun c : Dev nD => (dutyTok ER (barCell c) 0 () : sProp 𝕄),
    bigSep_univ_equiv across fun c : Dev nD => (bigSep Finset.univ fun j : Fin 8 => dutyTok ER (recvCell c j) 0 () : sProp 𝕄)]
  exact .rfl

omit [FloatOps F] in
/-- A fact that can be kept by everyone serves every member of a conjunction. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' invariants and tokens, dealt so that every device holds what it starts with. -/
theorem regroup :
    (bigSep Finset.univ fun c : Dev nD => iprop((bigSep Finset.univ fun k : CI => iprop(∃ κ : ℕ, cellInv ER (exRd m) κ (kcell (c, k))))
          ∗ ((bigSep Finset.univ fun k : CI => atPos ER (kcell (c, k)) 0 ∅ 0) ∗ bigSep Finset.univ fun k : CI => reached ER (kcell (c, k)) 0)
          ∗ (bigSep Finset.univ fun k : CI => dutyTok ER (kcell (c, k)) 0 ()) ∗ locals c) : sProp 𝕄)
      ⊢ bigSep Finset.univ (G' m) := by
  rw [bigSep_sep', bigSep_sep', bigSep_sep', bigSep_sep', ← bigSep_univ_prod (fun x : Dev nD × CI => iprop(∃ κ : ℕ, cellInv ER (exRd m) κ (kcell x))),
    ← bigSep_univ_prod (fun x : Dev nD × CI => (reached ER (kcell x) 0 : sProp 𝕄))]
  iintro ⟨HI, ⟨Hat, #HR⟩, Htok, Hloc⟩
  ihave HK := (BI.bigSep_exists_pi Finset.univ (fun (x : Dev nD × CI) (κ : ℕ) => (cellInv ER (exRd m) κ (kcell x) : sProp 𝕄))) $$ HI
  icases HK with ⟨%K, #HI⟩
  ihave Htk := (toks_across (F := F)) $$ Htok
  iapply (with_persistent (R := records m K) (Φ := fun c => iprop(((bigSep Finset.univ fun k : CI => atPos ER (kcell (c, k)) 0 ∅ 0) ∗ payToks c) ∗ locals c))
    fun c _ => by
      unfold G' linear
      iintro ⟨#HR, H, Hloc⟩
      isplitr [Hloc]
      · iexists K
        isplitr; · iexact HR
        iexact H
      · iexact Hloc)
  isplitr
  · unfold records; isplitl; · iexact HI
    iexact HR
  · rw [bigSep_sep', bigSep_sep']
    isplitr [Hloc]
    · isplitl [Hat] <;> iassumption
    · iexact Hloc

/-- The global step: every device's counters become the exchange's invariants, and the tokens change sides. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit a device starts with -/

/-- What device `d` owes the cells of device `c`: everything if it is the partner, else nothing. -/
theorem owed_bar (d c : Dev nD) : O₀ d (barCell c) () = if d = peer c then 1 else 0 := by
  unfold O₀ owedTo
  have hz : ∀ j ∈ (Finset.univ : Finset (Fin 8)), (tallyAt (recvCell (peer d) j) () N : CellTallies nD τ sig Unit) (barCell c) () = 0 := fun j _ => by
    rw [tallyAt_apply]; exact if_neg fun h => by cases congrArg Prod.snd h.1
  rw [Pi.add_apply, Finsupp.add_apply, Finset.sum_apply, Finsupp.finset_sum_apply, Finset.sum_eq_zero hz, Nat.zero_add, tallyAt_apply]
  refine if_congr ⟨fun h => ?_, fun h => ?_⟩ rfl rfl
  · have : c = peer d := congrArg (fun g : GSem nD τ sig => g.1.1) h.1
    rw [this, peer_peer]
  · subst h; rw [peer_peer]; exact ⟨rfl, rfl⟩

/-- An arrival's units are owed by the partner alone, a block's worth. -/
theorem owed_recv (d c : Dev nD) (j : Fin 8) : O₀ d (recvCell c j) () = if d = peer c then N else 0 := by
  unfold O₀ owedTo
  rw [Pi.add_apply, Finsupp.add_apply, Finset.sum_apply, Finsupp.finset_sum_apply, tallyAt_apply (g := barCell (peer d)),
    if_neg (fun h => by cases congrArg Prod.snd h.1), Nat.add_zero]
  by_cases h : d = peer c
  · subst h
    rw [if_pos rfl, peer_peer, Finset.sum_eq_single j]
    · rw [tallyAt_apply]; exact if_pos ⟨rfl, rfl⟩
    · intro i _ hi
      rw [tallyAt_apply]
      refine if_neg fun h => hi ?_
      have := kcell_injective (a₁ := (c, .inr (.inr j))) (a₂ := (c, .inr (.inr i))) h.1
      injection this with _ h; injection h with h; injection h with h; exact h.symm
    · exact fun h => absurd (Finset.mem_univ _) h
  · rw [if_neg h]
    refine Finset.sum_eq_zero fun i _ => ?_
    rw [tallyAt_apply]
    refine if_neg fun h' => h ?_
    have : c = peer d := congrArg (fun g : GSem nD τ sig => g.1.1) h'.1
    rw [this, peer_peer]

/-- So a cell's launch credit is what its one duty pays. -/
theorem launch_cell {g : GSem nD τ sig} {c : Dev nD} {n : ℕ} (h : ∀ d, O₀ d g () = if d = peer c then n else 0) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n,
    if_pos (Finset.mem_univ _)]

omit [FloatOps F] in
/-- The credit of a device's barrier and of its eight arrivals is among its launch credit. -/
theorem creds (c : Dev nD) :
    (Pipeline.launchCred O₀ c : sProp 𝕄)
      ⊢ iprop(cred (tallyAt (barCell c) () 1) ∗ bigSep Finset.univ fun j : Fin 8 => cred (tallyAt (recvCell c j) () N)) := by
  unfold Pipeline.launchCred
  refine (bigSep_subset (Finset.subset_univ (Finset.univ.map ⟨csem, csem_injective⟩))).trans ?_
  rw [bigSep_map, bigSep_cells]
  show (iprop(_ ∗ _ ∗ _) : sProp 𝕄) ⊢ iprop(_ ∗ _)
  iintro ⟨HB, -, HV⟩
  isplitl [HB]
  · iapply (Entails.of_eq (congrArg cred (launch_cell fun d => owed_bar d c))); iexact HB
  · iapply (show (bigSep Finset.univ fun j : Fin 8 => cred (tallyOn (recvCell c j) (launchCredit (Pipeline.owing O₀) 0 (recvCell c j))) : sProp 𝕄) ⊢ _ from
      bigSep_mono fun j _ => Entails.of_eq (congrArg cred (launch_cell fun d => owed_recv d c j)))
    iexact HV

/-! ## What enters and leaves the kernel -/

/-- A device's arguments and result, whole: the result at `f`. -/
def arrays (c : Dev nD) (f : Buf (Elt F) ((c : Thread nD τ).loc main_v1)) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_v1) ↦{fullShare} f))

/-- What a device brings to the kernel, its scratch buffers apart. -/
def start (c : Dev nD) : sProp 𝕄 :=
  iprop(G' m c ∗ (cred (tallyAt (barCell c) () 1) ∗ bigSep Finset.univ fun j : Fin 8 => cred (tallyAt (recvCell c j) () N)) ∗ levAts L lv
    ∗ arrays m c (m ((c : Thread nD τ).loc main_v1)))

/-- What it takes away: the arrays with the result in place, and the barrier's counter at zero. -/
def done (c : Dev nD) : sProp 𝕄 := iprop(arrays m c (outVal m c) ∗ unscopedSems0 c)

/-- Before the kernel: whatever the device owes at first, it can start. -/
def Φ₀ (c : Dev nD) : sProp 𝕄 := iprop(∃ K, ∀ W, owes (c : Thread nD τ) (O₀ c) W -∗ bodyStart m K c W)
/-- After it: the results, the kernel's counters at zero, the scratch buffers. -/
def Φ₁ (c : Dev nD) : sProp 𝕄 :=
  iprop(done m c ∗ Pipeline.ownSems0 osem c ∗ Pipeline.scopedRest cfg0.spec c)

/-- The launch's data: what holds and what is owed before and after the kernel. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- What the launch deals a device is what it brings to the kernel. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Harr, Hlev, Hcr, -, HG⟩
  ihave Hc := (creds (F := F) c) $$ Hcr
  imodintro
  unfold start arrays
  isplitl
  · isplitl [HG]; · iexact HG
    isplitl [Hc]; · iexact Hc
    isplitl [Hlev] <;> iassumption
  · iempintro

/-- With its scratch buffers, the device can start. -/
theorem phi0_intro (c : Dev nD) :
    iprop(start m c ∗ Pipeline.prefHeld Pipeline.Prefetch.none c (fun _ => fullShare.right) (fun k => k.elim0) ∗ Pipeline.scopedRest cfg0.spec c)
      ⊢ Φ₀ m c := by
  rw [scopedRest0_eq]
  unfold start G' arrays linear payToks locals
  rw [bigSep_cells, out_blocks]
  iintro ⟨⟨⟨⟨%K, #HR, ⟨HaB, HaS, HaV⟩, HtB, HtS, HtV⟩, Sx, Sd0, Sd1, So⟩, ⟨HcB, HcV⟩, #Hlev, Ha, Hb, Ho⟩, -, ⟨Hx, Hd, Hs, Hr, Hc⟩⟩
  ihave Hd := (dy_split (F := F) c) $$ Hd
  icases Hd with ⟨Hd0, Hd1⟩
  ihave Hs := (send_split (F := F) c) $$ Hs
  ihave Hr := (recv_split (F := F) c) $$ Hr
  ihave Hc := (acc_split (F := F) c) $$ Hc
  unfold Φ₀
  iexists K
  iintro %W HO
  unfold bodyStart
  isplitr; · iexact HR
  isplitr; · iexact Hlev
  isplitl [Ha]; · iexact Ha
  isplitl [Hb]; · iexact Hb
  isplitl [Hx]; · iexact Hx
  isplitl [Hd0]; · iexact Hd0
  isplitl [Hd1]; · iexact Hd1
  isplitl [Ho]; · iexact Ho
  isplitl [Hs]; · iexact Hs
  isplitl [Hr]; · iexact Hr
  isplitl [Hc]; · iexact Hc
  isplitl [Sx]; · iexact Sx
  isplitl [Sd0]; · iexact Sd0
  isplitl [Sd1]; · iexact Sd1
  isplitl [So]; · iexact So
  isplitl [HO]; · iexact HO
  isplitl [HtB]; · iexact HtB
  isplitl [HaB]; · iexact HaB
  isplitl [HcB]; · iexact HcB
  isplitl [HtS]; · iexact HtS
  isplitl [HtV]; · iexact HtV
  isplitl [HaS]; · iexact HaS
  isplitl [HaV] <;> iassumption

/-- The kernel's end, its buffers joined. -/
theorem end_done (c : Dev nD) : bodyEnd m c ⊢ iprop(Φ₁ m c ∗ ∃ W, owes (c : Thread nD τ) 0 W) := by
  unfold Φ₁ done arrays
  rw [scopedRest0_eq, ownSems0_eq, unscopedSems0_eq, out_blocks]
  unfold bodyEnd
  iintro ⟨Ha, Hb, Ho, Hx, Hd0, Hd1, Hs, Hr, Hc, Sx, Sd0, Sd1, So, ZB, ZS, ZV, HO⟩
  ihave Hd := (dy_join m c) $$ [Hd0 Hd1]
  · isplitl [Hd0] <;> iassumption
  ihave Hs := (send_join m c) $$ Hs
  ihave Hr := (recv_join m c) $$ Hr
  ihave Hc := (acc_join m c) $$ Hc
  isplitr [HO]
  · isplitl [Ha Hb Ho ZB]
    · isplitr [ZB]
      · isplitl [Ha]; · iexact Ha
        isplitl [Hb] <;> iassumption
      · iexact ZB
    isplitl [Sx Sd0 Sd1 So ZS ZV]
    · isplitl [Sx]; · iexact Sx
      isplitl [Sd0 Sd1]
      · isplitl [Sd0] <;> iassumption
      isplitl [So]; · iexact So
      isplitl [ZS] <;> iassumption
    isplitl [Hx]; · iexact Hx
    isplitl [Hd]; · iexact Hd
    isplitl [Hs]; · iexact Hs
    isplitl [Hr] <;> iassumption
  · iexact HO

/-- The kernel at its one point. -/
theorem body_obligation (c : Dev nD) : BodyObligation (dats (F := F) m 0 c) (defs₀ (F := F)) 𝒱₀ () Set.univ := fun t => by
  rw [fin_N0 t]
  refine BIBase.Entails.trans (Q := iprop(∃ K W, bodyStart m K c W)) ?_ ?_
  · show iprop(Φ₀ m c ∗ (dats m 0 c).owesAt () t0_0.castSucc ∗ _) ⊢ _
    unfold Dat.owesAt Pipeline.owesWithin Φ₀
    iintro ⟨⟨%K, Hs⟩, ⟨%W, %hW, HO⟩, -⟩
    iexists K; iexists W
    ispecialize Hs $$ %W
    iapply Hs
    iexact HO
  · have hend : ∀ Ψ : Fin 0 → sProp 𝕄, bodyEnd m c ⊢ iprop(Φ₁ m c ∗ (dats m 0 c).owesAt () t0_0.succ ∗ bigSep Finset.univ Ψ) := fun Ψ => by
      unfold Dat.owesAt Pipeline.owesWithin
      rw [show (dats m 0 c).owed t0_0.succ = 0 from rfl, show (Finset.univ : Finset (Fin 0)) = ∅ from rfl, bigSep_empty]
      iintro H
      ihave H := (end_done m c) $$ H
      icases H with ⟨H, ⟨%W, HO⟩⟩
      isplitl [H]; · iexact H
      isplitl [HO]
      · iexists W
        isplitr; · ipureintro; exact fun _ _ => Or.inl trivial
        iexact HO
      · iempintro
    iintro ⟨%K, %W, H⟩
    iapply ((body_runs m K c W).trans (wp_mono _ _ _ fun _ => hend _))
    iexact H

/-- The launch waits on no cell of its own. -/
theorem waits (c : Dev nD) : (levAts L lv : sProp 𝕄) ⊢ Pipeline.cellsWaits cfgs (dats m) () 0 c :=
  Pipeline.cellsWaits_intro cfgs (dats m) () 0 c fun w s t => w.elim0

/-! ## The run -/

/-- The final memory: each device's result in place, its arguments as they were. -/
def Final (c : Dev nD) (s : MemSt nD τ sig (Elt F)) : Prop :=
  s.mem ((c : Thread nD τ).loc main_v1) = outVal m c
    ∧ s.mem ((c : Thread nD τ).loc main_arg0) = m ((c : Thread nD τ).loc main_arg0)
    ∧ s.mem ((c : Thread nD τ).loc main_arg1) = m ((c : Thread nD τ).loc main_arg1)

omit [FloatOps F] in
/-- A buffer held whole is what the memory holds. -/
theorem read_whole {ℓ : Loc nD τ sig} (f : Buf (Elt F) ℓ) (s' : Phys nD τ sig (Elt F)) :
    iprop(SI s' ∗ ℓ ↦{fullShare} f) ⊢ (⌜s'.mem.mem ℓ = f⌝ : sProp 𝕄) := by
  refine SI_pointsTo_agree.trans ?_
  iintro %h
  ipureintro
  exact funext fun i => h i (Finset.mem_univ i)

/-- What a device ends with tells its final memory and its barrier's counter. -/
theorem done_read (c : Dev nD) (s' : Phys nD τ sig (Elt F)) :
    iprop(done m c ∗ emp ∗ SI s')
      ⊢ |={Set.univ}=> iprop(⌜Final m c s'.mem ∧ ∀ sm : SemLoc sig, sm.isScoped .tc = false → s'.mem.sem ((c.tc : Thread nD τ), sm) = 0⌝ ∗ SI s') := by
  unfold done arrays
  iintro ⟨⟨⟨Ha, Hb, Ho⟩, Hu⟩, -, HSI⟩
  ihave %h1 := (read_whole _ s') $$ [HSI Ho]
  · isplitl [HSI] <;> iassumption
  ihave %h2 := (read_whole _ s') $$ [HSI Ha]
  · isplitl [HSI] <;> iassumption
  ihave %h3 := (read_whole _ s') $$ [HSI Hb]
  · isplitl [HSI] <;> iassumption
  imod (Pipeline.unscopedSems0_read (X := unscopedSems0 c) (c := c) fupd_intro s') $$ [Hu HSI] with ⟨%h4, HSI⟩
  · isplitl [Hu] <;> iassumption
  imodintro
  isplitr
  · ipureintro; exact ⟨⟨h1, h2, h3⟩, h4⟩
  · iexact HSI

set_option maxRecDepth 8000 in
/-- At the 2 × 4 × 4 mesh, for any float values, from any memory with zero counters: every weakly fair execution of the
    program terminates, and every final state has each device's result at `outVal`, its arguments unchanged and every
    semaphore counter at zero. -/
theorem run_main : θ_run defs (onTc (τ := τ) (main (F := F))) ⟨m, fun _ => 0, ρ⟩ (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H := (show BI.own ((embR : Emb (UR sig nD τ × Counters) 𝕄) (initOf exCells exToks, 1))
          ⊢ iprop(BI.own (ER (initOf exCells exToks)) ∗ BI.own (((Emb.inr : Emb Counters (UR sig nD τ × Counters)).trans embR) 1)) from by
            unfold ER; exact own_pair_emb (M' := 𝕄) (A := UR sig nD τ) (B := Counters) embR (initOf exCells exToks) 1) $$ HX
      icases H with ⟨HX, -⟩
      imod (fund_ex m) $$ HX with HG
      imodintro
      isplitl [HP] <;> iassumption)
    (hglob := glob m)
    (hA := fun _ w => w.elim0) (hpf := fun _ k => k.elim0)
    (X := start m) (Y := done m) (Z := fun _ => iprop(emp))
    (hX := start_intro m ρ) (hin := phi0_intro m) (hout := fun _ => .rfl)
    (QY := fun c s => Final m c s ∧ ∀ sm : SemLoc sig, sm.isScoped .tc = false → s.sem ((c.tc : Thread nD τ), sm) = 0)
    (hY := done_read m)
    (hQ := fun _ h hs => ⟨fun c => (h c).2.2.1, sem_eq_zero hs fun c => (h c).2.2.2⟩)

end Cert.KernelIdealProof
-- ==== Proof.KernelIdeal.Algebra.lean ====
/-
# The mesh computes `x.T @ dy`

Over the extended reals a device's result is, entry by entry, two sums over 512 rows: its own rows and its partner's. The
two together are the sum over all 1024 rows, which is the reference's entry of the device's rows of the product.
-/
module

public import proofs.«01_k».proof.Proof.KernelIdeal.Launch
public import proofs.«01_k».proof.Proof.Gen.ReferenceIdeal.Run
public import Idealize.ShloMosaic.Lib.Pointwise.Contract
public import Idealize.ShloMosaic.Lib.StackMember
public import Idealize.ShloMosaic.Lib.Layout

@[expose] public section

noncomputable section

namespace Cert.KernelIdealProof

open Cert.KernelIdeal Cert.KernelIdeal.Gen

open Idealize.ShloMosaic hiding ix2 ix3 eq_ix2 eq_ix3
open Idealize.ShloMosaic.TcCoe
open Idealize.ShloMosaic.ValueIdx (ix2 ix3 eq_ix2 eq_ix3)

/-! ## The blocks of the arrays -/

/-- Entry `(i, k)` of device `c`'s block of an array cut in two along its rows. -/
theorem rows_block {α : Type} {a b n : ℕ} (hb : b = 2 * a) (c : Dev nD) (v : (⟨2, ![b, n]⟩ : Shape).Idx → α)
    (h : Layout.TilesN ⟨2, ![a, n]⟩ ⟨2, ![b, n]⟩ (fun x => Layout.cutSize [2, 4, 4] ((![[0], []] : Fin 2 → List ℕ) x)))
    (i : Fin a) (k : Fin n) (hi : a * (c.val / 16) + i.val < b) :
    Layout.blockN ⟨2, ![a, n]⟩ ⟨2, ![b, n]⟩ (Layout.meshBlock [2, 4, 4] ![[0], []] c) v h (ix2 i k)
      = v (ix2 ⟨a * (c.val / 16) + i.val, hi⟩ k) := by
  have hc : c.val < 32 := c.isLt
  refine congrArg v (Shape.idx_ext₂ ?_ ?_)
  · show (c.val / 16 % 2 * 1 + 0) * a + i.val = a * (c.val / 16) + i.val
    rw [Nat.mod_eq_of_lt (by omega : c.val / 16 < 2), Nat.mul_one, Nat.add_zero, Nat.mul_comm]
  · show 0 * n + k.val = k.val
    omega

/-- The rows of either half, and those of the other one, are all rows. -/
theorem sum_halves {M : Type*} [AddCommMonoid M] (f : Fin 1024 → M) (q p : ℕ) (hq : q < 2) (hp : p = 1 - q) :
    ∑ r : Fin 512, f ⟨512 * q + r.val, by have := r.isLt; omega⟩ + ∑ r : Fin 512, f ⟨512 * p + r.val, by have := r.isLt; omega⟩
      = ∑ r : Fin 1024, f r := by
  have hs : ∑ r : Fin 1024, f r
      = ∑ r : Fin 512, f ⟨512 * 0 + r.val, by have := r.isLt; omega⟩ + ∑ r : Fin 512, f ⟨512 * 1 + r.val, by have := r.isLt; omega⟩ := by
    rw [show ∑ r : Fin 1024, f r = _ from Fin.sum_univ_add (a := 512) (b := 512) f]
    refine congrArg₂ (· + ·) (Finset.sum_congr rfl fun r _ => congrArg f (Fin.ext ?_)) (Finset.sum_congr rfl fun r _ => congrArg f (Fin.ext ?_))
    · show r.val = 512 * 0 + r.val; omega
    · show 512 + r.val = 512 * 1 + r.val; omega
  obtain rfl | rfl : q = 0 ∨ q = 1 := by omega
  · subst hp; exact hs.symm
  · subst hp; rw [hs]; exact add_comm _ _

/-! ## The product of two column blocks -/

/-- The kernel's product contracts the rows of both operands. -/
theorem dot_rows_apply (l r : S512x256.Idx → EReal) (a b : Fin 256) :
    matmul (F := Ideal) (φ₁ := .bf16) (φ₂ := .bf16) dot_S512x256_S512x256_S256x256_0_0_1_1_n_n none l r (constant S256x256 .f32 0x00000000#32) (ix2 a b)
      = ∑ k : Fin 512, l (ix2 k a) * r (ix2 k b) := by
  refine (Ideal.matmul_constant_zero_apply (φ₁ := .bf16) (φ₂ := .bf16) _ none l r _).trans ?_
  rw [DotDims.sum_contr₁ _ (a := 0) rfl (K := 512) rfl]
  refine Finset.sum_congr rfl fun k _ => congrArg₂ (fun u v => l u * r v) (Shape.idx_ext₂ rfl rfl) (Shape.idx_ext₂ rfl rfl)

variable (m : (ℓ : Loc nD τ sig) → Buf (Elt Ideal) ℓ)

/-- Device `c`'s rows of `x`. -/
def xAt (c : Dev nD) : S512x512.Idx → EReal := m ((c : Thread nD τ).loc main_arg0)
/-- Device `c`'s rows of `dy`. -/
def dyAt (c : Dev nD) : S512x2048.Idx → EReal := m ((c : Thread nD τ).loc main_arg1)

/-- The product over one device's 512 rows: column `u` of its rows of `x` with column `v` of its rows of `dy`. -/
def part (c : Dev nD) (u : Fin 512) (v : Fin 2048) : EReal :=
  ∑ k : Fin 512, xAt m c (ix2 k u) * dyAt m c (ix2 k v)

/-- The columns of `x` a device keeps are its own half of the columns. -/
theorem xMine_apply (c : Dev nD) (k : Fin 512) (a : Fin 256) (h : 256 * (c.val / 16) + a.val < 512) :
    xMine m c (ix2 k a) = xAt m c (ix2 k ⟨256 * (c.val / 16) + a.val, h⟩) := by
  refine congrArg (m ((c : Thread nD τ).loc main_arg0)) (Shape.idx_ext₂ ?_ ?_)
  · show k0_off2 c 0 + 1 * k.val = k.val
    rw [k0_off2_eq]; show 0 + 1 * k.val = k.val; omega
  · show k0_off2 c 1 + 1 * a.val = 256 * (c.val / 16) + a.val
    rw [k0_off2_eq]; show 256 * (c.val / 16) + 1 * a.val = 256 * (c.val / 16) + a.val; omega

/-- The columns of `x` a device computes for its partner are the other half. -/
theorem xThem_apply (c : Dev nD) (k : Fin 512) (a : Fin 256) (h : 256 - 256 * (c.val / 16) + a.val < 512) :
    xThem m c (ix2 k a) = xAt m c (ix2 k ⟨256 - 256 * (c.val / 16) + a.val, h⟩) := by
  refine congrArg (m ((c : Thread nD τ).loc main_arg0)) (Shape.idx_ext₂ ?_ ?_)
  · show k0_off1 c 0 + 1 * k.val = k.val
    rw [k0_off1_eq]; show 0 + 1 * k.val = k.val; omega
  · show k0_off1 c 1 + 1 * a.val = 256 - 256 * (c.val / 16) + a.val
    rw [k0_off1_eq]; show 256 - 256 * (c.val / 16) + 1 * a.val = 256 - 256 * (c.val / 16) + a.val; omega

/-- What a device computes for itself is the product over its own rows, at its own columns of `x`. -/
theorem mine_apply (c : Dev nD) (j : Fin 8) (a b : Fin 256) (h : 256 * (c.val / 16) + a.val < 512) (h' : 256 * j.val + b.val < 2048) :
    mine m c j (ix2 a b) = part m c ⟨256 * (c.val / 16) + a.val, h⟩ ⟨256 * j.val + b.val, h'⟩ := by
  unfold mine k0_pay5 k0_pay4 k0_pay2
  rw [shapeCast_self]
  refine (dot_rows_apply _ _ a b).trans (Finset.sum_congr rfl fun k _ => ?_)
  refine congrArg₂ (fun u v : EReal => u * v) (xMine_apply m c k a h) ?_
  exact ValueIdx.shapeCast_1ab_ab_apply (a := 512) (b := 256) (dyChunk m c j) _ k b

/-- What a device sends is the product over its own rows, at the columns of `x` that its partner keeps. -/
theorem sent_apply (c : Dev nD) (j : Fin 8) (a b : Fin 256) (h : 256 - 256 * (c.val / 16) + a.val < 512) (h' : 256 * j.val + b.val < 2048) :
    sent m c j (ix3 0 a b) = part m c ⟨256 - 256 * (c.val / 16) + a.val, h⟩ ⟨256 * j.val + b.val, h'⟩ := by
  unfold sent k0_pay3 k0_pay1 k0_pay2
  refine (ValueIdx.shapeCast_ab_1ab_apply (a := 256) (b := 256) _ _ 0 a b).trans ?_
  refine (dot_rows_apply _ _ a b).trans (Finset.sum_congr rfl fun k _ => ?_)
  refine congrArg₂ (fun u v : EReal => u * v) (xThem_apply m c k a h) ?_
  exact ValueIdx.shapeCast_1ab_ab_apply (a := 512) (b := 256) (dyChunk m c j) _ k b

/-- An entry of a device's result: the product over its own rows plus the one over its partner's. -/
theorem outVal_apply (c : Dev nD) (i : Fin 256) (v : Fin 2048) (h : 256 * (c.val / 16) + i.val < 512) :
    outVal m c (ix2 i v) = part m c ⟨256 * (c.val / 16) + i.val, h⟩ v + part m (peer c) ⟨256 * (c.val / 16) + i.val, h⟩ v := by
  have hv : v.val < 2048 := v.isLt
  have hc : c.val < 32 := c.isLt
  have hi : i.val < 256 := i.isLt
  have hp : (peer c).val / 16 = 1 - c.val / 16 := by show (c.val + 16) % 32 / 16 = _; omega
  have ev : (⟨256 * (v.val / 256) + v.val % 256, by omega⟩ : Fin 2048) = v := Fin.ext (Nat.div_add_mod v.val 256)
  have e : outVal m c (ix2 i v)
      = (mine m c ⟨v.val / 256, by omega⟩ (ix2 i ⟨v.val % 256, Nat.mod_lt _ (by decide)⟩) : EReal)
        + sent m (peer c) ⟨v.val / 256, by omega⟩ (ix3 0 i ⟨v.val % 256, Nat.mod_lt _ (by decide)⟩) := by
    show outBlk m c ⟨v.val / 256, _⟩ (ix2 i ⟨v.val % 256, _⟩) = _
    unfold outBlk k0_pay27
    rw [shapeCast_self]
    exact congrArg (fun z : EReal => (mine m c ⟨v.val / 256, by omega⟩ (ix2 i ⟨v.val % 256, Nat.mod_lt _ (by decide)⟩) : EReal) + z)
      (ValueIdx.shapeCast_1ab_ab_apply (a := 256) (b := 256) (sent m (peer c) ⟨v.val / 256, by omega⟩) _ i ⟨v.val % 256, Nat.mod_lt _ (by decide)⟩)
  have eu : (⟨256 - 256 * ((peer c).val / 16) + i.val, by omega⟩ : Fin 512) = ⟨256 * (c.val / 16) + i.val, h⟩ :=
    Fin.ext (by show 256 - 256 * ((peer c).val / 16) + i.val = 256 * (c.val / 16) + i.val; omega)
  rw [e, mine_apply m c _ _ _ h (by show 256 * (v.val / 256) + v.val % 256 < 2048; omega),
    sent_apply m (peer c) _ _ _ (by omega) (by show 256 * (v.val / 256) + v.val % 256 < 2048; omega)]
  rw [eu]
  exact congrArg₂ (fun s t : Fin 2048 => part m c _ s + part m (peer c) _ t) ev ev

/-! ## The reference -/

/-- The reference's result: the product of the transposed `x` with `dy`. -/
def refVal (X : (⟨2, ![1024, 512]⟩ : Shape).Idx → EReal) (Y : (⟨2, ![1024, 2048]⟩ : Shape).Idx → EReal) : (⟨2, ![512, 2048]⟩ : Shape).Idx → EReal :=
  Host.dotGeneral (F := Ideal) (φ₁ := .f32) (φ₂ := .f32) Cert.ReferenceIdeal.dot_S512x1024_S1024x2048_S512x2048_1_0_0_1_n_n none
    (transpose Cert.ReferenceIdeal.S512x1024 [1, 0] X Cert.ReferenceIdeal.Gen.transposes_S1024x512_S512x1024_1_0) Y

/-- An entry of the reference's result is the sum over all 1024 rows. -/
theorem refVal_apply (X : (⟨2, ![1024, 512]⟩ : Shape).Idx → EReal) (Y : (⟨2, ![1024, 2048]⟩ : Shape).Idx → EReal) (u : Fin 512) (v : Fin 2048) :
    refVal X Y (ix2 u v) = ∑ k : Fin 1024, X (ix2 k u) * Y (ix2 k v) := by
  unfold refVal
  refine (Ideal.dotGeneral_apply _ _ _ _ _ _).trans ?_
  rw [DotDims.sum_contr₁ _ (a := 1) rfl (K := 1024) rfl]
  refine Finset.sum_congr rfl fun k _ => congrArg₂ (fun p q : EReal => p * q) ?_ (congrArg Y (Shape.idx_ext₂ rfl rfl))
  refine Eq.trans (b := transpose Cert.ReferenceIdeal.S512x1024 [1, 0] X Cert.ReferenceIdeal.Gen.transposes_S1024x512_S512x1024_1_0 (ix2 u k)) ?_
    (ValueIdx.transpose_ix2_apply X _ u k)
  exact congrArg (transpose _ [1, 0] X _) (Shape.idx_ext₂ rfl rfl)

/-- From its blocks of `x` and `dy`, every device ends with its block of the reference's result. -/
theorem outVal_ref (X : (⟨2, ![1024, 512]⟩ : Shape).Idx → EReal) (Y : (⟨2, ![1024, 2048]⟩ : Shape).Idx → EReal)
    (hX : ∀ c : Dev nD, m ((c : Thread nD τ).loc main_arg0) = Layout.blockN ⟨2, ![512, 512]⟩ ⟨2, ![1024, 512]⟩ (Layout.meshBlock [2, 4, 4] ![[0], []] c) X)
    (hY : ∀ c : Dev nD, m ((c : Thread nD τ).loc main_arg1) = Layout.blockN ⟨2, ![512, 2048]⟩ ⟨2, ![1024, 2048]⟩ (Layout.meshBlock [2, 4, 4] ![[0], []] c) Y)
    (c : Dev nD) :
    outVal m c = Layout.blockN ⟨2, ![256, 2048]⟩ ⟨2, ![512, 2048]⟩ (Layout.meshBlock [2, 4, 4] ![[0], []] c) (refVal X Y) := by
  have hq : ∀ d : Dev nD, d.val / 16 < 2 := fun d => by have : d.val < 32 := d.isLt; omega
  have hp : (peer c).val / 16 = 1 - c.val / 16 := by
    have : c.val < 32 := c.isLt
    show (c.val + 16) % 32 / 16 = _; omega
  have hpart : ∀ (d : Dev nD) (u : Fin 512) (v : Fin 2048), part m d u v
      = ∑ k : Fin 512, X (ix2 ⟨512 * (d.val / 16) + k.val, by have := hq d; have := k.isLt; omega⟩ u)
          * Y (ix2 ⟨512 * (d.val / 16) + k.val, by have := hq d; have := k.isLt; omega⟩ v) := fun d u v =>
    Finset.sum_congr rfl fun k _ => congrArg₂ (fun p q : EReal => p * q)
      ((congrFun (hX d) _).trans (rows_block rfl d X _ k u _)) ((congrFun (hY d) _).trans (rows_block rfl d Y _ k v _))
  have hc := hq c
  have key : ∀ (a : Fin 256) (v : Fin 2048), outVal m c (ix2 a v)
      = Layout.blockN ⟨2, ![256, 2048]⟩ ⟨2, ![512, 2048]⟩ (Layout.meshBlock [2, 4, 4] ![[0], []] c) (refVal X Y) (by decide) (ix2 a v) := by
    intro a v
    have hb : 256 * (c.val / 16) + a.val < 512 := by have := a.isLt; omega
    refine Eq.trans ?_ (rows_block (a := 256) (b := 512) rfl c (refVal X Y) _ a v hb).symm
    rw [outVal_apply m c a v hb, refVal_apply, hpart, hpart]
    exact sum_halves (fun k : Fin 1024 => X (ix2 k ⟨256 * (c.val / 16) + a.val, hb⟩) * Y (ix2 k v)) (c.val / 16) ((peer c).val / 16) hc hp
  funext i
  rw [show i = ix2 (n0 := 256) (n1 := 2048) (i 0) (i 1) from eq_ix2 i]
  exact key (i 0) (i 1)

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Algebra
public import Idealize.ShloMosaic.Adequacy
public import Idealize.ShloMosaic.Init

@[expose] public section

noncomputable section

namespace Cert.Proof

open Idealize.ShloMosaic Idealize.SL.Sem Cert.Kernel

/-- Every run of the kernel ends, its arguments unchanged and every counter at zero. -/
theorem frame_kernel : Cert.quiescent_Kernel (hKernel := Cert.Kernel.Gen.facts) := fun m g _ =>
  (θ_run _ _ _).mono (fun _ h => ⟨fun c => ⟨(h.1 c).2.1, (h.1 c).2.2⟩, h.2⟩) (Cert.KernelProof.run_main m g)

/-- The same over the extended reals. -/
theorem frame_kernelIdeal : Cert.quiescent_KernelIdeal (hKernelIdeal := Cert.KernelIdeal.Gen.facts) := fun m g _ =>
  (θ_run _ _ _).mono (fun _ h => ⟨fun c => ⟨(h.1 c).2.1, (h.1 c).2.2⟩, h.2⟩) (Cert.KernelIdealProof.run_main m g)

/-- Every run of the reference ends, its arguments unchanged; it has no counters. -/
theorem frame_reference : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- From their blocks of `x` and `dy`, the devices end with their blocks of the reference's `x.T @ dy`. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨_, (θ_run _ _ _).mono (fun _ h c => ⟨(h.1 c).1.trans ?_, (h.1 c).2.1, (h.1 c).2.2⟩) (Cert.KernelIdealProof.run_main m g),
    (θ_run _ _ _).mono (fun r h => h 0) (Cert.ReferenceIdeal.Value.run m' g')⟩
  exact Cert.KernelIdealProof.outVal_ref m _ _ (fun d => (hm d).1) (fun d => (hm d).2) c

/-- All five claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
